-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S128x512x64 : Shape := ⟨3, ![128, 512, 64]⟩
abbrev S_ : Shape := ⟨0, ![]⟩

class Facts : Prop where
  bcast_S_S128x512x64 : S_.BroadcastsInDim S128x512x64 (![] : Fin 0 → Fin S128x512x64.rank)
  reducesTo_S128x512x64_S_d0_1_2 : S128x512x64.ReducesTo [0, 1, 2] S_
  h_S_ : 0 < S_.numel

variable [Facts]

def fn {F : FTy → Type} [FloatOps F] (main_arg0 : FVec F S128x512x64 .f32) (main_arg1 : FVec F S128x512x64 .f32) : IVec S_ 1 :=
  let main_v0 : FVec F S128x512x64 .f32 := Host.absf main_arg0
  let main_cst : FVec F S_ .f32 := constant S_ .f32 0x7F800000#32
  let main_v1 : FVec F S128x512x64 .f32 := broadcastInDim S128x512x64 ![] bcast_S_S128x512x64 main_cst
  let main_v2 : IVec S128x512x64 1 := cmpf .olt main_v0 main_v1
  let main_c : IVec S_ 1 := constantI S_ 1 1#1
  let main_v3 : IVec S_ 1 := (fun x v => Host.reduce IntOp.andi x v reducesTo_S128x512x64_S_d0_1_2 h_S_) main_v2 main_c
  let main_v4 : FVec F S128x512x64 .f32 := Host.absf main_arg1
  let main_cst_0 : FVec F S_ .f32 := constant S_ .f32 0x7F800000#32
  let main_v5 : FVec F S128x512x64 .f32 := broadcastInDim S128x512x64 ![] bcast_S_S128x512x64 main_cst_0
  let main_v6 : IVec S128x512x64 1 := cmpf .olt main_v4 main_v5
  let main_c_1 : IVec S_ 1 := constantI S_ 1 1#1
  let main_v7 : IVec S_ 1 := (fun x v => Host.reduce IntOp.andi x v reducesTo_S128x512x64_S_d0_1_2 h_S_) main_v6 main_c_1
  let main_v8 : IVec S_ 1 := andi main_v3 main_v7
  main_v8
-- ==== Kernel.lean ====
abbrev S128x512x64 : Shape := ⟨3, ![128, 512, 64]⟩
abbrev S128x64x512 : Shape := ⟨3, ![128, 64, 512]⟩
abbrev S128x64x128x4 : Shape := ⟨4, ![128, 64, 128, 4]⟩
abbrev S128x64x4x128 : Shape := ⟨4, ![128, 64, 4, 128]⟩
abbrev S4x32x512 : Shape := ⟨3, ![4, 32, 512]⟩
abbrev S32x64x512 : Shape := ⟨3, ![32, 64, 512]⟩
abbrev S1x32x512 : Shape := ⟨3, ![1, 32, 512]⟩
abbrev S4096x128 : Shape := ⟨2, ![4096, 128]⟩
abbrev S512x512 : Shape := ⟨2, ![512, 512]⟩
abbrev S1x512 : Shape := ⟨2, ![1, 512]⟩
abbrev S1x128 : Shape := ⟨2, ![1, 128]⟩
abbrev S1x64x512 : Shape := ⟨3, ![1, 64, 512]⟩
abbrev S64x512 : Shape := ⟨2, ![64, 512]⟩
abbrev S512 : Shape := ⟨1, ![512]⟩
abbrev S66x512 : Shape := ⟨2, ![66, 512]⟩
abbrev S512x128 : Shape := ⟨2, ![512, 128]⟩
abbrev S4x128 : Shape := ⟨2, ![4, 128]⟩
abbrev S508x128 : Shape := ⟨2, ![508, 128]⟩
abbrev S8x128 : Shape := ⟨2, ![8, 128]⟩
abbrev S504x128 : Shape := ⟨2, ![504, 128]⟩
abbrev S16x128 : Shape := ⟨2, ![16, 128]⟩
abbrev S496x128 : Shape := ⟨2, ![496, 128]⟩
abbrev S32x128 : Shape := ⟨2, ![32, 128]⟩
abbrev S480x128 : Shape := ⟨2, ![480, 128]⟩
abbrev S64x128 : Shape := ⟨2, ![64, 128]⟩
abbrev S448x128 : Shape := ⟨2, ![448, 128]⟩
abbrev S128x128 : Shape := ⟨2, ![128, 128]⟩
abbrev S384x128 : Shape := ⟨2, ![384, 128]⟩
abbrev S256x128 : Shape := ⟨2, ![256, 128]⟩
abbrev S511x128 : Shape := ⟨2, ![511, 128]⟩
abbrev S510x128 : Shape := ⟨2, ![510, 128]⟩
abbrev S2x128 : Shape := ⟨2, ![2, 128]⟩
abbrev S509x128 : Shape := ⟨2, ![509, 128]⟩
abbrev S3x128 : Shape := ⟨2, ![3, 128]⟩
abbrev S32x1 : Shape := ⟨2, ![32, 1]⟩
abbrev S32x127 : Shape := ⟨2, ![32, 127]⟩
abbrev S32x512 : Shape := ⟨2, ![32, 512]⟩
abbrev S4x32x1 : Shape := ⟨3, ![4, 32, 1]⟩
abbrev S4x32 : Shape := ⟨2, ![4, 32]⟩
abbrev S128 : Shape := ⟨1, ![128]⟩

abbrev nBuf : Space → Nat
  | .hbm => 11
  | .vmem => 23
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x64x512, .f32⟩
  | .hbm, ⟨3, _⟩ => ⟨S128x64x128x4, .f32⟩
  | .hbm, ⟨4, _⟩ => ⟨S128x64x4x128, .f32⟩
  | .hbm, ⟨5, _⟩ => ⟨S128x64x512, .f32⟩
  | .hbm, ⟨6, _⟩ => ⟨S128x64x512, .f32⟩
  | .hbm, ⟨7, _⟩ => ⟨S4x32x512, .f32⟩
  | .hbm, ⟨8, _⟩ => ⟨S4x32x1, .f32⟩
  | .hbm, ⟨9, _⟩ => ⟨S4x32, .f32⟩
  | .hbm, ⟨10, _⟩ => ⟨S128, .f32⟩
  | .local _ .vmem, ⟨0, _⟩ => ⟨S32x64x512, .f32⟩
  | .local _ .vmem, ⟨1, _⟩ => ⟨S32x64x512, .f32⟩
  | .local _ .vmem, ⟨2, _⟩ => ⟨S32x64x512, .f32⟩
  | .local _ .vmem, ⟨3, _⟩ => ⟨S32x64x512, .f32⟩
  | .local _ .vmem, ⟨4, _⟩ => ⟨S1x32x512, .f32⟩
  | .local _ .vmem, ⟨5, _⟩ => ⟨S1x32x512, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S512x512, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_2845 : BitVec 32 := 0#32
  let c127_i32 : BitVec 32 := 127#32
  let v10543 : BitVec 32 := Scalar.addi c0_i32_2845 c127_i32
  let c1_i32_2846 : BitVec 32 := 1#32
  ⟨c0_i32_2845, v10543, c1_i32_2846⟩
def k0_off1 (k0_t1 : Fin k0_t1_loop.trips) (c0_i32_3197 : BitVec 32) : Fin 2 → Nat :=
  let c0_i32_2845 : BitVec 32 := 0#32
  let c1_i32_2846 : BitVec 32 := 1#32
  let arg21 : BitVec 32 := Scf.iv c0_i32_2845 c1_i32_2846 k0_t1
  let c63_i32 : BitVec 32 := 63#32
  let v11304 : BitVec 32 := Scalar.andi arg21 c63_i32
  let c64_i32_3194 : BitVec 32 := 64#32
  let v11305 : BitVec 32 := Scalar.muli v11304 c64_i32_3194
  let v11308 : BitVec 32 := Scalar.addi v11305 c0_i32_3197
  let v11309 : Index := Scalar.indexCast v11308
  let c0_3198 : Index := 0#32
  ![v11309.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x512x64 : Shape := ⟨3, ![128, 512, 64]⟩
abbrev S_ : Shape := ⟨0, ![]⟩
abbrev S128x512 : Shape := ⟨2, ![128, 512]⟩
abbrev S128x512x1 : Shape := ⟨3, ![128, 512, 1]⟩
abbrev S128x1x512 : Shape := ⟨3, ![128, 1, 512]⟩
abbrev S128x512x512 : Shape := ⟨3, ![128, 512, 512]⟩
abbrev S512 : Shape := ⟨1, ![512]⟩
abbrev S2x128x512 : Shape := ⟨3, ![2, 128, 512]⟩
abbrev S1023 : Shape := ⟨1, ![1023]⟩
abbrev S1 : Shape := ⟨1, ![1]⟩
abbrev S1x128x512 : Shape := ⟨3, ![1, 128, 512]⟩
abbrev S512x1 : Shape := ⟨2, ![512, 1]⟩
abbrev S512x2 : Shape := ⟨2, ![512, 2]⟩
abbrev S128x1 : Shape := ⟨2, ![128, 1]⟩
abbrev S128x511 : Shape := ⟨2, ![128, 511]⟩
abbrev S128 : Shape := ⟨1, ![128]⟩

abbrev nBuf : Space → Nat
  | .hbm => 130
  | .vmem => 0
  | .smem => 0
  | _ => 0

abbrev hbmTy0_0 (i : Nat) : BufTy := match i % 128 with
  | 0 => ⟨S128x512x64, .f32⟩
  | 1 => ⟨S128x512x64, .f32⟩
  | 2 => ⟨S128x512x64, .f32⟩
  | 3 => ⟨S_, .f32⟩
  | 4 => ⟨S128x512, .f32⟩
  | 5 => ⟨S128x512x1, .f32⟩
  | 6 => ⟨S128x512x64, .f32⟩
  | 7 => ⟨S_, .f32⟩
  | 8 => ⟨S128x512, .f32⟩
  | 9 => ⟨S128x1x512, .f32⟩
  | 10 => ⟨S128x512x512, .f32⟩
  | 11 => ⟨S128x512x512, .f32⟩
  | 12 => ⟨S128x512x512, .f32⟩
  | 13 => ⟨S128x512x512, .f32⟩
  | 14 => ⟨S_, .f32⟩
  | 15 => ⟨S128x512x512, .f32⟩
  | 16 => ⟨S128x512x512, .f32⟩
  | 17 => ⟨S128x512x512, .f32⟩
  | 18 => ⟨S512, .i32⟩
  | 19 => ⟨S_, .f32⟩
  | 20 => ⟨S2x128x512, .f32⟩
  | 21 => ⟨S1023, .i32⟩
  | 22 => ⟨S_, .i32⟩
  | 23 => ⟨S1023, .i32⟩
  | 24 => ⟨S512, .i32⟩
  | 25 => ⟨S128x512x512, .f32⟩
  | 26 => ⟨S_, .i32⟩
  | 27 => ⟨S2x128x512, .f32⟩
  | 28 => ⟨S_, .i32⟩
  | 29 => ⟨S_, .i1⟩
  | 30 => ⟨S1, .i32⟩
  | 31 => ⟨S_, .i32⟩
  | 32 => ⟨S1x128x512, .f32⟩
  | 33 => ⟨S128x512, .f32⟩
  | 34 => ⟨S1x128x512, .f32⟩
  | 35 => ⟨S128x512, .f32⟩
  | 36 => ⟨S512, .i32⟩
  | 37 => ⟨S512, .i32⟩
  | 38 => ⟨S_, .i32⟩
  | 39 => ⟨S512, .i32⟩
  | 40 => ⟨S512, .i1⟩
  | 41 => ⟨S_, .i32⟩
  | 42 => ⟨S512, .i32⟩
  | 43 => ⟨S512, .i1⟩
  | 44 => ⟨S512, .i1⟩
  | 45 => ⟨S_, .i32⟩
  | 46 => ⟨S_, .i32⟩
  | 47 => ⟨S_, .i32⟩
  | 48 => ⟨S512, .i32⟩
  | 49 => ⟨S512, .i32⟩
  | 50 => ⟨S_, .i32⟩
  | 51 => ⟨S512, .i32⟩
  | 52 => ⟨S512, .i32⟩
  | 53 => ⟨S_, .i32⟩
  | 54 => ⟨S512, .i32⟩
  | 55 => ⟨S512, .i1⟩
  | 56 => ⟨S_, .i32⟩
  | 57 => ⟨S512, .i32⟩
  | 58 => ⟨S512, .i32⟩
  | 59 => ⟨S512, .i32⟩
  | 60 => ⟨S_, .i32⟩
  | 61 => ⟨S512, .i32⟩
  | 62 => ⟨S512, .i1⟩
  | 63 => ⟨S_, .i32⟩
  | 64 => ⟨S512, .i32⟩
  | 65 => ⟨S512, .i32⟩
  | 66 => ⟨S512, .i32⟩
  | 67 => ⟨S512x1, .i32⟩
  | 68 => ⟨S512x1, .i32⟩
  | 69 => ⟨S512x2, .i32⟩
  | 70 => ⟨S128x512, .f32⟩
  | 71 => ⟨S_, .f32⟩
  | 72 => ⟨S128x1, .f32⟩
  | 73 => ⟨S128x511, .f32⟩
  | 74 => ⟨S128x512, .f32⟩
  | 75 => ⟨S_, .i32⟩
  | 76 => ⟨S512, .i32⟩
  | 77 => ⟨S512, .i1⟩
  | 78 => ⟨S_, .i32⟩
  | 79 => ⟨S_, .i1⟩
  | 80 => ⟨S512, .i1⟩
  | 81 => ⟨S512, .i1⟩
  | 82 => ⟨S_, .f32⟩
  | 83 => ⟨S128x512, .i1⟩
  | 84 => ⟨S128x512, .f32⟩
  | 85 => ⟨S128x512, .f32⟩
  | 86 => ⟨S128x511, .f32⟩
  | 87 => ⟨S128x512, .f32⟩
  | 88 => ⟨S128x512, .f32⟩
  | 89 => ⟨S_, .f32⟩
  | 90 => ⟨S128x512, .f32⟩
  | 91 => ⟨S128x512, .f32⟩
  | 92 => ⟨S128x512, .f32⟩
  | 93 => ⟨S_, .f32⟩
  | 94 => ⟨S128x512, .f32⟩
  | 95 => ⟨S128x512, .f32⟩
  | 96 => ⟨S128x512, .f32⟩
  | 97 => ⟨S_, .f32⟩
  | 98 => ⟨S128x512, .f32⟩
  | 99 => ⟨S128x512, .f32⟩
  | 100 => ⟨S128x512, .f32⟩
  | 101 => ⟨S128x512, .f32⟩
  | 102 => ⟨S128x512, .f32⟩
  | 103 => ⟨S128x512, .f32⟩
  | 104 => ⟨S128x512, .f32⟩
  | 105 => ⟨S128x512, .f32⟩
  | 106 => ⟨S128x512, .f32⟩
  | 107 => ⟨S128x512, .f32⟩
  | 108 => ⟨S128x512, .f32⟩
  | 109 => ⟨S128x512, .f32⟩
  | 110 => ⟨S128x512, .f32⟩
  | 111 => ⟨S128x512, .f32⟩
  | 112 => ⟨S_, .f32⟩
  | 113 => ⟨S128x512, .f32⟩
  | 114 => ⟨S128x512, .f32⟩
  | 115 => ⟨S128x512, .f32⟩
  | 116 => ⟨S_, .f32⟩
  | 117 => ⟨S_, .f32⟩
  | 118 => ⟨S128x512, .i1⟩
  | 119 => ⟨S128x512, .f32⟩
  | 120 => ⟨S128x512, .f32⟩
  | 121 => ⟨S1x128x512, .f32⟩
  | 122 => ⟨S1x128x512, .f32⟩
  | 123 => ⟨S2x128x512, .f32⟩
  | 124 => ⟨S_, .i32⟩
  | 125 => ⟨S_, .i32⟩
  | 126 => ⟨S1x128x512, .f32⟩
  | 127 => ⟨S128x512, .f32⟩
  | _ => ⟨S128x512x64, .f32⟩

abbrev hbmTy0_1 (i : Nat) : BufTy := match i % 128 with
  | 0 => ⟨S128x1, .f32⟩
  | 1 => ⟨S128, .f32⟩
  | _ => ⟨S128x512x64, .f32⟩

abbrev hbmTy (i : Nat) : BufTy := match i / 128 with
  | 0 => hbmTy0_0 i
  | 1 => hbmTy0_1 i
  | _ => ⟨S128x512x64, .f32⟩

abbrev bufTy : (tb : Table) → Fin (tcTables nBuf tb) → BufTy
  | .hbm, ⟨i, _⟩ => hbmTy i
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_while0c_c_7 : Ref sig .tc := ⟨.hbm, 28, rfl⟩
abbrev main_while0c_v21 : Ref sig .tc := ⟨.hbm, 29, rfl⟩
abbrev main_while0b_call0_v0 : Ref sig .tc := ⟨.hbm, 30, rfl⟩
abbrev main_while0b_v21 : Ref sig .tc := ⟨.hbm, 31, rfl⟩
abbrev main_while0b_v22 : Ref sig .tc := ⟨.hbm, 32, rfl⟩
abbrev main_while0b_v23 : Ref sig .tc := ⟨.hbm, 33, rfl⟩
abbrev main_while0b_v24 : Ref sig .tc := ⟨.hbm, 34, rfl⟩
abbrev main_while0b_v25 : Ref sig .tc := ⟨.hbm, 35, rfl⟩
abbrev main_while0b_v26 : Ref sig .tc := ⟨.hbm, 36, rfl⟩
abbrev main_while0b_v27 : Ref sig .tc := ⟨.hbm, 37, rfl⟩
abbrev main_while0b_c_7 : Ref sig .tc := ⟨.hbm, 38, rfl⟩
abbrev main_while0b_v28 : Ref sig .tc := ⟨.hbm, 39, rfl⟩
abbrev main_while0b_v29 : Ref sig .tc := ⟨.hbm, 40, rfl⟩
abbrev main_while0b_c_8 : Ref sig .tc := ⟨.hbm, 41, rfl⟩
abbrev main_while0b_v30 : Ref sig .tc := ⟨.hbm, 42, rfl⟩
abbrev main_while0b_v31 : Ref sig .tc := ⟨.hbm, 43, rfl⟩
abbrev main_while0b_v32 : Ref sig .tc := ⟨.hbm, 44, rfl⟩
abbrev main_while0b_c_9 : Ref sig .tc := ⟨.hbm, 45, rfl⟩
abbrev main_while0b_c_10 : Ref sig .tc := ⟨.hbm, 46, rfl⟩
abbrev main_while0b_call1_v0 : Ref sig .tc := ⟨.hbm, 47, rfl⟩
abbrev main_while0b_call1_v1 : Ref sig .tc := ⟨.hbm, 48, rfl⟩
abbrev main_while0b_call1_v2 : Ref sig .tc := ⟨.hbm, 49, rfl⟩
abbrev main_while0b_call1_v3 : Ref sig .tc := ⟨.hbm, 50, rfl⟩
abbrev main_while0b_call1_v4 : Ref sig .tc := ⟨.hbm, 51, rfl⟩
abbrev main_while0b_v33 : Ref sig .tc := ⟨.hbm, 52, rfl⟩
abbrev main_while0b_c_11 : Ref sig .tc := ⟨.hbm, 53, rfl⟩
abbrev main_while0b_v34 : Ref sig .tc := ⟨.hbm, 54, rfl⟩
abbrev main_while0b_v35 : Ref sig .tc := ⟨.hbm, 55, rfl⟩
abbrev main_while0b_c_12 : Ref sig .tc := ⟨.hbm, 56, rfl⟩
abbrev main_while0b_v36 : Ref sig .tc := ⟨.hbm, 57, rfl⟩
abbrev main_while0b_v37 : Ref sig .tc := ⟨.hbm, 58, rfl⟩
abbrev main_while0b_v38 : Ref sig .tc := ⟨.hbm, 59, rfl⟩
abbrev main_while0b_c_13 : Ref sig .tc := ⟨.hbm, 60, rfl⟩
abbrev main_while0b_v39 : Ref sig .tc := ⟨.hbm, 61, rfl⟩
abbrev main_while0b_v40 : Ref sig .tc := ⟨.hbm, 62, rfl⟩
abbrev main_while0b_c_14 : Ref sig .tc := ⟨.hbm, 63, rfl⟩
abbrev main_while0b_v41 : Ref sig .tc := ⟨.hbm, 64, rfl⟩
abbrev main_while0b_v42 : Ref sig .tc := ⟨.hbm, 65, rfl⟩
abbrev main_while0b_v43 : Ref sig .tc := ⟨.hbm, 66, rfl⟩
abbrev main_while0b_v44 : Ref sig .tc := ⟨.hbm, 67, rfl⟩
abbrev main_while0b_v45 : Ref sig .tc := ⟨.hbm, 68, rfl⟩
abbrev main_while0b_v46 : Ref sig .tc := ⟨.hbm, 69, rfl⟩
abbrev main_while0b_v47 : Ref sig .tc := ⟨.hbm, 70, rfl⟩
abbrev main_while0b_cst_15 : Ref sig .tc := ⟨.hbm, 71, rfl⟩
abbrev main_while0b_v48 : Ref sig .tc := ⟨.hbm, 72, rfl⟩
abbrev main_while0b_v49 : Ref sig .tc := ⟨.hbm, 73, rfl⟩
abbrev main_while0b_v50 : Ref sig .tc := ⟨.hbm, 74, rfl⟩
abbrev main_while0b_c_16 : Ref sig .tc := ⟨.hbm, 75, rfl⟩
abbrev main_while0b_v51 : Ref sig .tc := ⟨.hbm, 76, rfl⟩
abbrev main_while0b_v52 : Ref sig .tc := ⟨.hbm, 77, rfl⟩
abbrev main_while0b_c_17 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_cst_18 : Ref sig .tc := ⟨.hbm, 82, rfl⟩
abbrev main_while0b_call2_v0 : Ref sig .tc := ⟨.hbm, 83, rfl⟩
abbrev main_while0b_call2_v1 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_v59 : Ref sig .tc := ⟨.hbm, 88, rfl⟩
abbrev main_while0b_cst_19 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_cst_20 : Ref sig .tc := ⟨.hbm, 93, rfl⟩
abbrev main_while0b_v63 : Ref sig .tc := ⟨.hbm, 94, rfl⟩
abbrev main_while0b_v64 : Ref sig .tc := ⟨.hbm, 95, rfl⟩
abbrev main_while0b_v65 : Ref sig .tc := ⟨.hbm, 96, rfl⟩
abbrev main_while0b_cst_21 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_cst_22 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_cst_23 : Ref sig .tc := ⟨.hbm, 116, rfl⟩
abbrev main_while0b_call3_v0 : Ref sig .tc := ⟨.hbm, 117, rfl⟩
abbrev main_while0b_call3_v1 : Ref sig .tc := ⟨.hbm, 118, rfl⟩
abbrev main_while0b_call3_v2 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_c_24 : Ref sig .tc := ⟨.hbm, 124, rfl⟩
abbrev main_while0b_v87 : Ref sig .tc := ⟨.hbm, 125, rfl⟩
abbrev main_v17 : Ref sig .tc := ⟨.hbm, 126, rfl⟩
abbrev main_v18 : Ref sig .tc := ⟨.hbm, 127, rfl⟩
abbrev main_v19 : Ref sig .tc := ⟨.hbm, 128, rfl⟩
abbrev main_v20 : Ref sig .tc := ⟨.hbm, 129, rfl⟩

abbrev nD : Nat := 1
abbrev τ : Topo := Topo.v7x

variable {F : FTy → Type} [FloatOps F]

abbrev main_while0_count : Scf.Loop 32 := ⟨0#32, 1023#32, 1#32⟩
-- ==== Proof.KModel.lean ====
/-
  The kernel body's run, said once per idea: the tile of distances of a batch, its skewed copies, the rows they are
  stored at, one step of the wavefront, the trip of eight steps, the seven steps after the loop. The run's own witness
  is these functions composed (`trip_eq`, `run_eq`).
-/
module

public import proofs.«01_k».proof.Proof.Gen.KernelIdeal.Frame.RunA

@[expose] public section

set_option maxRecDepth 65536

noncomputable section

open Idealize.ShloMosaic

namespace Cert.Proof.KModel

open Cert.KernelIdeal Cert.KernelIdeal.Gen

/-- One of four, by number. -/
def sel4 {α : Type} (a b c d : α) : ℕ → α
  | 0 => a
  | 1 => b
  | 2 => c
  | _ + 3 => d

variable {F : FTy → Type} [FloatOps F]

/-! ## The skewed tile -/

/-- The rows from `512 - n` on first, then the rest: row `j` holds what row `j - n` held. -/
def roll (n : ℕ) (h0 : S512x128.Slices ![512 - n, 0] ⟨2, ![n, 128]⟩) (h1 : S512x128.Slices ![0, 0] ⟨2, ![512 - n, 128]⟩)
    (h : Shape.Concatenates [⟨2, ![n, 128]⟩, ⟨2, ![512 - n, 128]⟩] S512x128 0) (a : FVec F S512x128 .f32) : FVec F S512x128 .f32 :=
  concatenate S512x128 0 [⟨⟨2, ![n, 128]⟩, extractStridedSlice ⟨2, ![n, 128]⟩ ![512 - n, 0] a h0⟩,
    ⟨⟨2, ![512 - n, 128]⟩, extractStridedSlice ⟨2, ![512 - n, 128]⟩ ![0, 0] a h1⟩] h

/-- The lanes whose number has the bit `w`, in every row. -/
def bit (w : BitVec 32) : IVec S512x128 1 :=
  broadcastTo S512x128 (shapeCast S1x128 (cmpi .ne (andi (iota .tc S1x128 32 [1] iota_S1x128_d1_w32) (broadcast S1x128 w)) (broadcast S1x128 0#32)))

/-- Lanes with the bit `w` move down by `n` rows. -/
def skew1 (w : BitVec 32) (n : ℕ) (h0 : S512x128.Slices ![512 - n, 0] ⟨2, ![n, 128]⟩) (h1 : S512x128.Slices ![0, 0] ⟨2, ![512 - n, 128]⟩)
    (h : Shape.Concatenates [⟨2, ![n, 128]⟩, ⟨2, ![512 - n, 128]⟩] S512x128 0) (a : FVec F S512x128 .f32) : FVec F S512x128 .f32 :=
  select (bit w) (roll n h0 h1 h a) a

/-- Lane `l` moves down by `4 * l` rows. -/
def skew (a : FVec F S512x128 .f32) : FVec F S512x128 .f32 :=
  skew1 64#32 256 (by decide) (by decide) (by decide) <| skew1 32#32 128 (by decide) (by decide) (by decide) <|
  skew1 16#32 64 (by decide) (by decide) (by decide) <| skew1 8#32 32 (by decide) (by decide) (by decide) <|
  skew1 4#32 16 (by decide) (by decide) (by decide) <| skew1 2#32 8 (by decide) (by decide) (by decide) <|
  skew1 1#32 4 (by decide) (by decide) (by decide) a

/-! ## One step of the wavefront -/

/-- The loop's values: distances and weights of the newest diagonal (`a`, `r`), of it moved by one row (`ash`, `rs`),
    and of the one before moved by one row (`a2`, `r2`), each as four residues of the row number. -/
structure St (F : FTy → Type) where
  a : ℕ → FVec F S32x128 .f32
  ash : ℕ → FVec F S32x128 .f32
  a2 : ℕ → FVec F S32x128 .f32
  r : ℕ → FVec F S32x128 .f32
  rs : ℕ → FVec F S32x128 .f32
  r2 : ℕ → FVec F S32x128 .f32

/-- The smallest of a cell's three neighbours. -/
def mn (a ash a2 : FVec F S32x128 .f32) : FVec F S32x128 .f32 := minimumf (minimumf a2 ash) a

/-- The cells of residue `q` that lie on diagonal `p`. -/
def valid (p q : BitVec 32) : IVec S32x128 1 :=
  cmpi .ult (subi (broadcast S32x128 p) (addi k0_pay1056 (broadcast S32x128 q))) (broadcast S32x128 512#32)

def newA (p q : BitVec 32) (d a ash a2 : FVec F S32x128 .f32) : FVec F S32x128 .f32 :=
  select (valid p q) (addf d (mn a ash a2)) k0_pay1059

def newR (p q : BitVec 32) (a ash a2 r rs r2 : FVec F S32x128 .f32) : FVec F S32x128 .f32 :=
  select (valid p q) (addf (addf (mulf r2 (exp (subf (mn a ash a2) a2))) (mulf rs (exp (subf (mn a ash a2) ash))))
    (mulf r (exp (subf (mn a ash a2) a)))) k0_pay1060

/-- One lane up, the column `v` first. -/
def shift (v : FVec F S32x1 .f32) (x : FVec F S32x128 .f32) : FVec F S32x128 .f32 :=
  concatenate S32x128 1 [⟨S32x1, v⟩, ⟨S32x127, extractStridedSlice S32x127 ![0, 0] x slices_S32x128_o0_0_S32x127⟩]
    concatenates_S32x1_S32x127_S32x128_d1

/-- Diagonal `p` from the two before it, `d` the distances on it. -/
def sub (p : BitVec 32) (d : ℕ → FVec F S32x128 .f32) (s : St F) : St F :=
  let an := fun q => newA p (BitVec.ofNat 32 q) (d q) (s.a q) (s.ash q) (s.a2 q)
  let rn := fun q => newR p (BitVec.ofNat 32 q) (s.a q) (s.ash q) (s.a2 q) (s.r q) (s.rs q) (s.r2 q)
  ⟨an, sel4 (shift k0_pay1057 (an 3)) (an 0) (an 1) (an 2), s.ash, rn, sel4 (shift k0_pay1058 (rn 3)) (rn 0) (rn 1) (rn 2), s.rs⟩

/-- A reader of the sixteen skewed copies: group, residue, rectangle. -/
abbrev Reader (F : FTy → Type) := ℕ → ℕ → (B : LoadRect S4096x128) → B.shape.Idx → Elt F .f32

/-- The distances of residue `q` in the rows of `R`, the groups one under the other. -/
def tile (rd : Reader F) (off : Fin 2 → ℕ) (h : ∀ a, off a + S8x128.size a ≤ S4096x128.size a) (q : ℕ) : FVec F S32x128 .f32 :=
  concatenate S32x128 0 [⟨S8x128, rd 0 q (Rect.unit (s := S4096x128) off S8x128.size h).toLoadRect⟩,
    ⟨S8x128, rd 1 q (Rect.unit (s := S4096x128) off S8x128.size h).toLoadRect⟩,
    ⟨S8x128, rd 2 q (Rect.unit (s := S4096x128) off S8x128.size h).toLoadRect⟩,
    ⟨S8x128, rd 3 q (Rect.unit (s := S4096x128) off S8x128.size h).toLoadRect⟩] concatenates_S8x128_S8x128_S8x128_S8x128_S32x128_d0

/-- The loop's tuple. -/
abbrev T (F : FTy → Type) :=
  FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32

def untup (t : T F) : St F :=
  ⟨sel4 t.1 t.2.1 t.2.2.1 t.2.2.2.1,
   sel4 t.2.2.2.2.1 t.2.2.2.2.2.1 t.2.2.2.2.2.2.1 t.2.2.2.2.2.2.2.1,
   sel4 t.2.2.2.2.2.2.2.2.1 t.2.2.2.2.2.2.2.2.2.1 t.2.2.2.2.2.2.2.2.2.2.1 t.2.2.2.2.2.2.2.2.2.2.2.1,
   sel4 t.2.2.2.2.2.2.2.2.2.2.2.2.1 t.2.2.2.2.2.2.2.2.2.2.2.2.2.1 t.2.2.2.2.2.2.2.2.2.2.2.2.2.2.1 t.2.2.2.2.2.2.2.2.2.2.2.2.2.2.2.1,
   sel4 t.2.2.2.2.2.2.2.2.2.2.2.2.2.2.2.2.1 t.2.2.2.2.2.2.2.2.2.2.2.2.2.2.2.2.2.1 t.2.2.2.2.2.2.2.2.2.2.2.2.2.2.2.2.2.2.1
     t.2.2.2.2.2.2.2.2.2.2.2.2.2.2.2.2.2.2.2.1,
   sel4 t.2.2.2.2.2.2.2.2.2.2.2.2.2.2.2.2.2.2.2.2.1 t.2.2.2.2.2.2.2.2.2.2.2.2.2.2.2.2.2.2.2.2.2.1 t.2.2.2.2.2.2.2.2.2.2.2.2.2.2.2.2.2.2.2.2.2.2.1
     t.2.2.2.2.2.2.2.2.2.2.2.2.2.2.2.2.2.2.2.2.2.2.2⟩

def tup (s : St F) : T F :=
  (s.a 0, s.a 1, s.a 2, s.a 3, s.ash 0, s.ash 1, s.ash 2, s.ash 3, s.a2 0, s.a2 1, s.a2 2, s.a2 3, s.r 0, s.r 1, s.r 2, s.r 3, s.rs 0, s.rs 1, s.rs 2, s.rs 3, s.r2 0, s.r2 1, s.r2 2, s.r2 3)

/-- The diagonal number of step `u` of trip `k`. -/
def pw (k : Fin k0_t1_loop.trips) (u : ℕ) : BitVec 32 :=
  Scalar.addi (Scalar.muli (Scf.iv 0#32 1#32 k) 8#32) (BitVec.ofNat 32 u)

/-- The offsets of step `u` of trip `k` stay in the buffer. -/
theorem off_inb (k : Fin k0_t1_loop.trips) (u : Fin 8) :
    ∀ a, k0_off1 k (BitVec.ofNat 32 (8 * u.1)) a + S8x128.size a ≤ S4096x128.size a := by
  revert k u; decide +kernel

/-- Step `u` of trip `k`. -/
def tripStep (rd : Reader F) (k : Fin k0_t1_loop.trips) (u : Fin 8) (s : St F) : St F :=
  sub (pw k u.1) (tile rd (k0_off1 k (BitVec.ofNat 32 (8 * u.1))) (off_inb k u)) s

/-- A trip: eight steps. -/
def trip (rd : Reader F) (k : Fin k0_t1_loop.trips) (s : St F) : St F :=
  tripStep rd k 7 <| tripStep rd k 6 <| tripStep rd k 5 <| tripStep rd k 4 <| tripStep rd k 3 <| tripStep rd k 2 <|
    tripStep rd k 1 <| tripStep rd k 0 s

theorem tail_inb (u : Fin 7) : ∀ a, (![4032 + 8 * u.1, 0] : Fin 2 → ℕ) a + S8x128.size a ≤ S4096x128.size a := by
  revert u; decide

/-- Step `u` after the loop. -/
def tailStep (rd : Reader F) (u : Fin 7) (s : St F) : St F :=
  sub (BitVec.ofNat 32 (1016 + u.1)) (tile rd ![4032 + 8 * u.1, 0] (tail_inb u)) s

/-- The seven steps after the loop. -/
def tail (rd : Reader F) (s : St F) : St F :=
  tailStep rd 6 <| tailStep rd 5 <| tailStep rd 4 <| tailStep rd 3 <| tailStep rd 2 <| tailStep rd 1 <| tailStep rd 0 s

/-- What the body stores: the last residue's weights folded into its distances. -/
def outv (s : St F) : FVec F S1x32x512 .f32 :=
  shapeCast S1x32x512 (concatenate S32x512 1 [⟨S32x128, s.a 0⟩, ⟨S32x128, s.a 1⟩, ⟨S32x128, s.a 2⟩,
    ⟨S32x128, subf (s.a 3) (mulf k0_pay1060 (log (s.r 3)))⟩] concatenates_S32x128_S32x128_S32x128_S32x128_S32x512_d1)

/-- The loop's values before the first trip. -/
def start : St F :=
  ⟨fun _ => k0_pay1059, fun _ => k0_pay1059, sel4 k0_pay1061 k0_pay1059 k0_pay1059 k0_pay1059,
    fun _ => k0_pay1060, fun _ => k0_pay1060, fun _ => k0_pay1060⟩

/-- The sixteen buffers as a reader. -/
def reader
  (arg4 : Memref sig .tc .vmem S4096x128 .f32) (arg5 : Memref sig .tc .vmem S4096x128 .f32) (arg6 : Memref sig .tc .vmem S4096x128 .f32) (arg7 : Memref sig .tc .vmem S4096x128 .f32) (arg8 : Memref sig .tc .vmem S4096x128 .f32) (arg9 : Memref sig .tc .vmem S4096x128 .f32) (arg10 : Memref sig .tc .vmem S4096x128 .f32) (arg11 : Memref sig .tc .vmem S4096x128 .f32) (arg12 : Memref sig .tc .vmem S4096x128 .f32) (arg13 : Memref sig .tc .vmem S4096x128 .f32) (arg14 : Memref sig .tc .vmem S4096x128 .f32) (arg15 : Memref sig .tc .vmem S4096x128 .f32) (arg16 : Memref sig .tc .vmem S4096x128 .f32) (arg17 : Memref sig .tc .vmem S4096x128 .f32) (arg18 : Memref sig .tc .vmem S4096x128 .f32) (arg19 : Memref sig .tc .vmem S4096x128 .f32)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty)
  (X9 : BufTy.Contents (Elt F) arg9.view.ty)
  (X10 : BufTy.Contents (Elt F) arg10.view.ty)
  (X11 : BufTy.Contents (Elt F) arg11.view.ty)
  (X12 : BufTy.Contents (Elt F) arg12.view.ty)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X17 : BufTy.Contents (Elt F) arg17.view.ty)
  (X18 : BufTy.Contents (Elt F) arg18.view.ty)
  (X19 : BufTy.Contents (Elt F) arg19.view.ty) : Reader F := fun g q B =>
  sel4
    (sel4 (View.readAt (Elt F) arg4.view B X4) (View.readAt (Elt F) arg5.view B X5) (View.readAt (Elt F) arg6.view B X6) (View.readAt (Elt F) arg7.view B X7) q)
    (sel4 (View.readAt (Elt F) arg8.view B X8) (View.readAt (Elt F) arg9.view B X9) (View.readAt (Elt F) arg10.view B X10) (View.readAt (Elt F) arg11.view B X11) q)
    (sel4 (View.readAt (Elt F) arg12.view B X12) (View.readAt (Elt F) arg13.view B X13) (View.readAt (Elt F) arg14.view B X14) (View.readAt (Elt F) arg15.view B X15) q)
    (sel4 (View.readAt (Elt F) arg16.view B X16) (View.readAt (Elt F) arg17.view B X17) (View.readAt (Elt F) arg18.view B X18) (View.readAt (Elt F) arg19.view B X19) q) g

/-! ## What the buffers hold -/

section
variable (arg1 : Memref sig .tc .vmem S32x64x512 .f32) (harg1 : arg1.IsWhole) (arg2 : Memref sig .tc .vmem S32x64x512 .f32) (harg2 : arg2.IsWhole)
  (arg20 : Memref sig .tc .vmem S512x512 .f32) (x0 : Vec F S32x64x512 .f32) (x1 : Vec F S32x64x512 .f32)

theorem batch_inb (b : ℕ) : ∀ a, (![b % 32, 0, 0] : Fin 3 → ℕ) a + S1x64x512.size a ≤ S32x64x512.size a := by
  have := Nat.mod_lt b (by decide : 0 < 32)
  intro a
  fin_cases a <;> simp <;> omega

/-- The distances of batch `b`: rows of `y`, lanes of `x`. -/
def dtile (b : ℕ) : FVec F S512x512 .f32 :=
  k0_pay196 (View.readAt (Elt F) arg1.view (Rect.unit (s := S32x64x512) ![b % 32, 0, 0] S1x64x512.size (batch_inb b)).toLoadRect (harg1.unread x0))
    (View.readAt (Elt F) arg2.view (Rect.unit (s := S32x64x512) ![b % 32, 0, 0] S1x64x512.size (batch_inb b)).toLoadRect (harg2.unread x1))

/-- The stores of the first `n` batches' distances, the last first. -/
def dts (n : ℕ) : List (View.Piece (Elt F) S512x512 .f32) :=
  Nat.rec (motive := fun _ => List (View.Piece (Elt F) S512x512 .f32)) []
    (fun k l => ⟨Rect.unit (s := S512x512) ![0, 0] S512x512.size inb_S512x512_S512x512_0_0, dtile arg1 harg1 arg2 harg2 x0 x1 k⟩ :: l) n

theorem lane_inb (q : ℕ) : ∀ a, (![0, 128 * (q % 4)] : Fin 2 → ℕ) a + S512x128.size a ≤ S512x512.size a := by
  have := Nat.mod_lt q (by decide : 0 < 4)
  intro a
  fin_cases a <;> simp <;> omega

/-- Residue `q` of batch `b`, skewed. -/
def skewed (b q : ℕ) : FVec F S512x128 .f32 :=
  skew (arg20.view.readCov (Val := Elt F) (dts arg1 harg1 arg2 harg2 x0 x1 (b + 1)) (Rect.unit (s := S512x512) ![0, 128 * (q % 4)] S512x128.size (lane_inb q)).toLoadRect)

theorem rows_inb (off n : ℕ) (h : n = 0 ∨ off + 8 * (n - 1) < 4096) :
    ∀ a, (![n, 128] : Fin 2 → ℕ) a = 0 ∨ (![off, 0] : Fin 2 → ℕ) a + (![8, 1] : Fin 2 → ℕ) a * ((![n, 128] : Fin 2 → ℕ) a - 1) < S4096x128.size a := by
  intro a
  fin_cases a <;> simp <;> omega

/-- `n` rows of batch `b`'s residue `q`, from row `lo` of the skewed tile, stored at every eighth row from `off`. -/
def piece (b q off lo n : ℕ) (h : n = 0 ∨ off + 8 * (n - 1) < 4096) (hs : S512x128.Slices ![lo, 0] ⟨2, ![n, 128]⟩) :
    View.Piece (Elt F) S4096x128 .f32 :=
  ⟨⟨⟨![off, 0], ![n, 128], ![8, 1], rows_inb off n h⟩, spos_8_1⟩,
    shapeCast ⟨2, ![n, 128]⟩ (extractStridedSlice ⟨2, ![n, 128]⟩ ![lo, 0] (skewed arg1 harg1 arg2 harg2 arg20 x0 x1 b q) hs) rfl⟩

theorem whole_inb (k : ℕ) : ∀ a, S512x128.size a = 0 ∨ (![k % 8, 0] : Fin 2 → ℕ) a + (![8, 1] : Fin 2 → ℕ) a * (S512x128.size a - 1) < S4096x128.size a := by
  have := Nat.mod_lt k (by decide : 0 < 8)
  intro a
  fin_cases a <;> simp <;> omega

theorem slices_lo (q : ℕ) : S512x128.Slices ![512 - q % 4, 0] ⟨2, ![q % 4, 128]⟩ := by
  have := Nat.mod_lt q (by decide : 0 < 4)
  refine ⟨rfl, fun a => ?_⟩
  fin_cases a <;> simp <;> omega

theorem slices_hi (q : ℕ) : S512x128.Slices ![0, 0] ⟨2, ![512 - q % 4, 128]⟩ := by
  have := Nat.mod_lt q (by decide : 0 < 4)
  refine ⟨rfl, fun a => ?_⟩
  fin_cases a <;> simp

/-- Residue `0` is stored whole. -/
def piece0 (b k : ℕ) : View.Piece (Elt F) S4096x128 .f32 :=
  ⟨⟨⟨![k % 8, 0], S512x128.size, ![8, 1], whole_inb k⟩, spos_8_1⟩,
    shapeCast S512x128 (skewed arg1 harg1 arg2 harg2 arg20 x0 x1 b 0)⟩

/-- The stores into the buffer of group `g` and residue `q` by its first `n` batches, the last first: per batch the rows
    that wrap, then the rest. -/
def pcsN (g q n : ℕ) : List (View.Piece (Elt F) S4096x128 .f32) :=
  Nat.rec (motive := fun _ => List (View.Piece (Elt F) S4096x128 .f32)) []
    (fun k l => Nat.rec (motive := fun _ => List (View.Piece (Elt F) S4096x128 .f32))
      (piece0 arg1 harg1 arg2 harg2 arg20 x0 x1 (8 * g + k) k :: l)
      (fun _ _ => piece arg1 harg1 arg2 harg2 arg20 x0 x1 (8 * g + k) q (k % 8) (512 - q % 4) (q % 4) (by omega) (slices_lo q) ::
        piece arg1 harg1 arg2 harg2 arg20 x0 x1 (8 * g + k) q (8 * (q % 4) + k % 8) 0 (512 - q % 4) (by omega) (slices_hi q) :: l) q) n

/-- All the stores into it. -/
def pcs (g q : ℕ) : List (View.Piece (Elt F) S4096x128 .f32) := pcsN arg1 harg1 arg2 harg2 arg20 x0 x1 g q 8

end

/-! ## The run is the model -/

theorem trip_eq (c : Dev nD) (i : grid0.Coords)
  (arg1 : Memref sig .tc .vmem S32x64x512 .f32) (harg1 : arg1.IsWhole) (arg2 : Memref sig .tc .vmem S32x64x512 .f32) (harg2 : arg2.IsWhole)
  (arg3 : Memref sig .tc .vmem S1x32x512 .f32) (harg3 : arg3.IsWhole)
  (arg4 : Memref sig .tc .vmem S4096x128 .f32) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x128 .f32) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S512x512 .f32) (harg20 : arg20.IsWhole)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty)
  (X9 : BufTy.Contents (Elt F) arg9.view.ty)
  (X10 : BufTy.Contents (Elt F) arg10.view.ty)
  (X11 : BufTy.Contents (Elt F) arg11.view.ty)
  (X12 : BufTy.Contents (Elt F) arg12.view.ty)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X17 : BufTy.Contents (Elt F) arg17.view.ty)
  (X18 : BufTy.Contents (Elt F) arg18.view.ty)
  (X19 : BufTy.Contents (Elt F) arg19.view.ty)
  (k : Fin k0_t1_loop.trips) (acc : T F) :
    (trip_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay1056 k0_pay1057 k0_pay1058 k0_pay1059 k0_pay1060 X4 X5 X6 X7 X8 X9 X10 X11 X12 X13 X14 X15 X16 X17 X18 X19 k).1 acc
      = tup (trip (reader arg4 arg5 arg6 arg7 arg8 arg9 arg10 arg11 arg12 arg13 arg14 arg15 arg16 arg17 arg18 arg19 X4 X5 X6 X7 X8 X9 X10 X11 X12 X13 X14 X15 X16 X17 X18 X19) k (untup acc)) := by
  sl_kernel_rfl

/-- The loop's values before trip `n`. -/
def loopSt (c : Dev nD) (i : grid0.Coords)
  (arg1 : Memref sig .tc .vmem S32x64x512 .f32) (harg1 : arg1.IsWhole) (arg2 : Memref sig .tc .vmem S32x64x512 .f32) (harg2 : arg2.IsWhole)
  (arg3 : Memref sig .tc .vmem S1x32x512 .f32) (harg3 : arg3.IsWhole)
  (arg4 : Memref sig .tc .vmem S4096x128 .f32) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x128 .f32) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S512x512 .f32) (harg20 : arg20.IsWhole)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty)
  (X9 : BufTy.Contents (Elt F) arg9.view.ty)
  (X10 : BufTy.Contents (Elt F) arg10.view.ty)
  (X11 : BufTy.Contents (Elt F) arg11.view.ty)
  (X12 : BufTy.Contents (Elt F) arg12.view.ty)
  (X13 : BufTy.Contents (Elt F) arg13.view.ty)
  (X14 : BufTy.Contents (Elt F) arg14.view.ty)
  (X15 : BufTy.Contents (Elt F) arg15.view.ty)
  (X16 : BufTy.Contents (Elt F) arg16.view.ty)
  (X17 : BufTy.Contents (Elt F) arg17.view.ty)
  (X18 : BufTy.Contents (Elt F) arg18.view.ty)
  (X19 : BufTy.Contents (Elt F) arg19.view.ty)
  (n : ℕ) : T F :=
  st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay1056 k0_pay1057 k0_pay1058 k0_pay1059 k0_pay1060 X4 X5 X6 X7 X8 X9 X10 X11 X12 X13 X14 X15 X16 X17 X18 X19 (tup start) n

end Cert.Proof.KModel
-- ==== Proof.KRun.lean ====
/-
  The body's run leaves the model's value in the output block.
-/
module

public import proofs.«01_k».proof.Proof.KModel

@[expose] public section

set_option maxRecDepth 65536

noncomputable section

open Idealize.ShloMosaic

namespace Cert.Proof.KModel

open Cert.KernelIdeal Cert.KernelIdeal.Gen

variable {F : FTy → Type} [FloatOps F]

theorem run_eq (c : Dev nD) (i : grid0.Coords)
  (arg1 : Memref sig .tc .vmem S32x64x512 .f32) (harg1 : arg1.IsWhole) (arg2 : Memref sig .tc .vmem S32x64x512 .f32) (harg2 : arg2.IsWhole)
  (arg3 : Memref sig .tc .vmem S1x32x512 .f32) (harg3 : arg3.IsWhole)
  (arg4 : Memref sig .tc .vmem S4096x128 .f32) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x128 .f32) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S512x512 .f32) (harg20 : arg20.IsWhole)
  (x0 : Vec F S32x64x512 .f32) (x1 : Vec F S32x64x512 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1).1
      = [⟨Rect.unit (s := S1x32x512) ![0, 0, 0] S1x32x512.size inb_S1x32x512_S1x32x512_0_0_0,
          outv (tail (reader arg4 arg5 arg6 arg7 arg8 arg9 arg10 arg11 arg12 arg13 arg14 arg15 arg16 arg17 arg18 arg19 (arg4.view.writes (Elt F) arg4.view.junk (pcs arg1 harg1 arg2 harg2 arg20 x0 x1 0 0)) (arg5.view.writes (Elt F) arg5.view.junk (pcs arg1 harg1 arg2 harg2 arg20 x0 x1 0 1)) (arg6.view.writes (Elt F) arg6.view.junk (pcs arg1 harg1 arg2 harg2 arg20 x0 x1 0 2)) (arg7.view.writes (Elt F) arg7.view.junk (pcs arg1 harg1 arg2 harg2 arg20 x0 x1 0 3)) (arg8.view.writes (Elt F) arg8.view.junk (pcs arg1 harg1 arg2 harg2 arg20 x0 x1 1 0)) (arg9.view.writes (Elt F) arg9.view.junk (pcs arg1 harg1 arg2 harg2 arg20 x0 x1 1 1)) (arg10.view.writes (Elt F) arg10.view.junk (pcs arg1 harg1 arg2 harg2 arg20 x0 x1 1 2)) (arg11.view.writes (Elt F) arg11.view.junk (pcs arg1 harg1 arg2 harg2 arg20 x0 x1 1 3)) (arg12.view.writes (Elt F) arg12.view.junk (pcs arg1 harg1 arg2 harg2 arg20 x0 x1 2 0)) (arg13.view.writes (Elt F) arg13.view.junk (pcs arg1 harg1 arg2 harg2 arg20 x0 x1 2 1)) (arg14.view.writes (Elt F) arg14.view.junk (pcs arg1 harg1 arg2 harg2 arg20 x0 x1 2 2)) (arg15.view.writes (Elt F) arg15.view.junk (pcs arg1 harg1 arg2 harg2 arg20 x0 x1 2 3)) (arg16.view.writes (Elt F) arg16.view.junk (pcs arg1 harg1 arg2 harg2 arg20 x0 x1 3 0)) (arg17.view.writes (Elt F) arg17.view.junk (pcs arg1 harg1 arg2 harg2 arg20 x0 x1 3 1)) (arg18.view.writes (Elt F) arg18.view.junk (pcs arg1 harg1 arg2 harg2 arg20 x0 x1 3 2)) (arg19.view.writes (Elt F) arg19.view.junk (pcs arg1 harg1 arg2 harg2 arg20 x0 x1 3 3)))
            (untup (loopSt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (arg4.view.writes (Elt F) arg4.view.junk (pcs arg1 harg1 arg2 harg2 arg20 x0 x1 0 0)) (arg5.view.writes (Elt F) arg5.view.junk (pcs arg1 harg1 arg2 harg2 arg20 x0 x1 0 1)) (arg6.view.writes (Elt F) arg6.view.junk (pcs arg1 harg1 arg2 harg2 arg20 x0 x1 0 2)) (arg7.view.writes (Elt F) arg7.view.junk (pcs arg1 harg1 arg2 harg2 arg20 x0 x1 0 3)) (arg8.view.writes (Elt F) arg8.view.junk (pcs arg1 harg1 arg2 harg2 arg20 x0 x1 1 0)) (arg9.view.writes (Elt F) arg9.view.junk (pcs arg1 harg1 arg2 harg2 arg20 x0 x1 1 1)) (arg10.view.writes (Elt F) arg10.view.junk (pcs arg1 harg1 arg2 harg2 arg20 x0 x1 1 2)) (arg11.view.writes (Elt F) arg11.view.junk (pcs arg1 harg1 arg2 harg2 arg20 x0 x1 1 3)) (arg12.view.writes (Elt F) arg12.view.junk (pcs arg1 harg1 arg2 harg2 arg20 x0 x1 2 0)) (arg13.view.writes (Elt F) arg13.view.junk (pcs arg1 harg1 arg2 harg2 arg20 x0 x1 2 1)) (arg14.view.writes (Elt F) arg14.view.junk (pcs arg1 harg1 arg2 harg2 arg20 x0 x1 2 2)) (arg15.view.writes (Elt F) arg15.view.junk (pcs arg1 harg1 arg2 harg2 arg20 x0 x1 2 3)) (arg16.view.writes (Elt F) arg16.view.junk (pcs arg1 harg1 arg2 harg2 arg20 x0 x1 3 0)) (arg17.view.writes (Elt F) arg17.view.junk (pcs arg1 harg1 arg2 harg2 arg20 x0 x1 3 1)) (arg18.view.writes (Elt F) arg18.view.junk (pcs arg1 harg1 arg2 harg2 arg20 x0 x1 3 2)) (arg19.view.writes (Elt F) arg19.view.junk (pcs arg1 harg1 arg2 harg2 arg20 x0 x1 3 3)) 127)))⟩] := by
  sl_kernel_rfl

end Cert.Proof.KModel
-- ==== Proof.KRead.lean ====
/-
  What the sixteen buffers hold after their stores: row `8 * row + b` of the buffer of residue `q` has, in lane `l`, the
  distance of row `4 * l + q` and the column that puts the cell on the diagonals `row` modulo 512.
-/
module

public import proofs.«01_k».proof.Proof.KModel
public import Idealize.ShloMosaic.Lib.Pointwise
public import Idealize.ShloMosaic.Lib.Pipeline.Value

@[expose] public section

set_option maxRecDepth 16384

noncomputable section

open Idealize.ShloMosaic

namespace Cert.Proof.KModel

open Cert.KernelIdeal Cert.KernelIdeal.Gen

variable {F : FTy → Type} [FloatOps F]

theorem bit_word : ∀ k : Fin 7, ∀ l : Fin 128,
    IntOp.cmpi CmpIPredicate.ne (IntOp.andi (BitVec.ofNat 32 l.1) (BitVec.ofNat 32 (2 ^ k.1))) 0#32
      = if l.1 / 2 ^ k.1 % 2 = 1 then 1#1 else 0#1 := by decide +kernel

theorem bit_apply (k : Fin 7) (j : Fin 512) (l : Fin 128) :
    bit (BitVec.ofNat 32 (2 ^ k.1)) (ix2 j l) = if l.1 / 2 ^ k.1 % 2 = 1 then 1#1 else 0#1 := by
  rw [← bit_word]
  unfold bit
  pointwise []

theorem roll_apply (n : ℕ) (hn : n < 512) (h0 : S512x128.Slices ![512 - n, 0] ⟨2, ![n, 128]⟩) (h1 : S512x128.Slices ![0, 0] ⟨2, ![512 - n, 128]⟩)
    (h : Shape.Concatenates [⟨2, ![n, 128]⟩, ⟨2, ![512 - n, 128]⟩] S512x128 0) (a : FVec F S512x128 .f32) (j : Fin 512) (l : Fin 128) :
    roll n h0 h1 h a (ix2 j l) = a (ix2 ⟨(j.1 + (512 - n)) % 512, Nat.mod_lt _ (by decide)⟩ l) := by
  unfold roll
  pointwise []
  have := j.2
  split
  · exact congrArg a (congrArg₂ ix2 (Fin.ext (by show 512 - n + j.1 = (j.1 + (512 - n)) % 512; omega)) rfl)
  · exact congrArg a (congrArg₂ ix2 (Fin.ext (by show j.1 - n = (j.1 + (512 - n)) % 512; omega)) rfl)

theorem skew1_apply (k : Fin 7) (w : BitVec 32) (hw : w = BitVec.ofNat 32 (2 ^ k.1)) (n : ℕ) (hn : n < 512)
    (h0 : S512x128.Slices ![512 - n, 0] ⟨2, ![n, 128]⟩) (h1 : S512x128.Slices ![0, 0] ⟨2, ![512 - n, 128]⟩)
    (h : Shape.Concatenates [⟨2, ![n, 128]⟩, ⟨2, ![512 - n, 128]⟩] S512x128 0) (a : FVec F S512x128 .f32) (j : Fin 512) (l : Fin 128) :
    skew1 w n h0 h1 h a (ix2 j l)
      = a (ix2 ⟨(j.1 + (512 - n * (l.1 / 2 ^ k.1 % 2))) % 512, Nat.mod_lt _ (by decide)⟩ l) := by
  subst hw
  unfold skew1
  rw [show ∀ (c : IVec S512x128 1) (x y : FVec F S512x128 .f32) (i : S512x128.Idx),
    select c x y i = if c i = 1#1 then x i else y i from fun c x y i => rfl, bit_apply]
  have := j.2
  by_cases hb : l.1 / 2 ^ k.1 % 2 = 1
  · rw [if_pos hb, if_pos rfl, roll_apply n hn, hb, Nat.mul_one]
  · rw [if_neg hb, if_neg (by decide)]
    refine congrArg a (congrArg₂ ix2 (Fin.ext ?_) rfl)
    have h0 : l.1 / 2 ^ k.1 % 2 = 0 := by omega
    show j.1 = _
    rw [h0, Nat.mul_zero]
    show j.1 = (j.1 + (512 - 0)) % 512
    omega

theorem skew_apply (a : FVec F S512x128 .f32) (j : Fin 512) (l : Fin 128) :
    skew a (ix2 j l) = a (ix2 ⟨(j.1 + (512 - 4 * l.1)) % 512, Nat.mod_lt _ (by decide)⟩ l) := by
  unfold skew
  rw [skew1_apply 6 64#32 rfl 256 (by decide), skew1_apply 5 32#32 rfl 128 (by decide), skew1_apply 4 16#32 rfl 64 (by decide),
    skew1_apply 3 8#32 rfl 32 (by decide), skew1_apply 2 4#32 rfl 16 (by decide), skew1_apply 1 2#32 rfl 8 (by decide),
    skew1_apply 0 1#32 rfl 4 (by decide)]
  refine congrArg a (congrArg₂ ix2 (Fin.ext ?_) rfl)
  have hl := l.2
  have hj := j.2
  simp only [Fin.isValue, Fin.val_zero, Fin.val_one, pow_zero, pow_one]
  simp only [show ((2 : Fin 7) : ℕ) = 2 from rfl, show ((3 : Fin 7) : ℕ) = 3 from rfl, show ((4 : Fin 7) : ℕ) = 4 from rfl,
    show ((5 : Fin 7) : ℕ) = 5 from rfl, show ((6 : Fin 7) : ℕ) = 6 from rfl]
  norm_num
  omega

section
variable (arg1 : Memref sig .tc .vmem S32x64x512 .f32) (harg1 : arg1.IsWhole) (arg2 : Memref sig .tc .vmem S32x64x512 .f32) (harg2 : arg2.IsWhole)
  (arg20 : Memref sig .tc .vmem S512x512 .f32) (x0 : Vec F S32x64x512 .f32) (x1 : Vec F S32x64x512 .f32)

/-- The tile of a batch is read back lane by lane, moved down. -/
theorem skewed_apply (b q : ℕ) (hq : q < 4) (j : Fin 512) (l : Fin 128) :
    skewed arg1 harg1 arg2 harg2 arg20 x0 x1 b q (ix2 j l)
      = dtile arg1 harg1 arg2 harg2 x0 x1 b (ix2 ⟨(j.1 + (512 - 4 * l.1)) % 512, Nat.mod_lt _ (by decide)⟩ ⟨128 * q + l.1, by omega⟩) := by
  unfold skewed
  rw [skew_apply, View.readCov_eq_canon']
  refine Eq.trans ?_ (View.canon_cons_emb (Rect.unit (s := S512x512) ![0, 0] S512x512.size inb_S512x512_S512x512_0_0)
    (dtile arg1 harg1 arg2 harg2 x0 x1 b) (dts arg1 harg1 arg2 harg2 x0 x1 b) _)
  refine congrArg (View.canon _) ?_
  funext a
  refine Fin.ext ?_
  fin_cases a
  · show 0 + 1 * ((j.1 + (512 - 4 * l.1)) % 512) = 0 + 1 * ((j.1 + (512 - 4 * l.1)) % 512)
    rfl
  · show 128 * (q % 4) + 1 * l.1 = 0 + 1 * (128 * q + l.1)
    omega

/-- What the buffer of group `g` and residue `q` holds. -/
def held (g q : ℕ) (hq : q < 4) (y : S4096x128.Idx) : F .f32 :=
  dtile arg1 harg1 arg2 harg2 x0 x1 (8 * g + (y 0).1 % 8)
    (ix2 ⟨((y 0).1 / 8 + (1024 - (4 * (y 1).1 + q))) % 512, Nat.mod_lt _ (by decide)⟩ ⟨128 * q + (y 1).1, by have h : (y 1).1 < 128 := (y 1).2; omega⟩)

theorem held_of (g q : ℕ) (hq : q < 4) (k : ℕ) (y : S4096x128.Idx) (j : Fin 512) (l : Fin 128) (hk : (y 0).1 % 8 = k) (hl : (y 1).1 = l.1)
    (hj : (j.1 + (512 - 4 * l.1)) % 512 = ((y 0).1 / 8 + (1024 - (4 * (y 1).1 + q))) % 512) :
    skewed arg1 harg1 arg2 harg2 arg20 x0 x1 (8 * g + k) q (ix2 j l) = held arg1 harg1 arg2 harg2 x0 x1 g q hq y := by
  rw [skewed_apply _ _ _ _ _ _ _ _ _ hq]
  unfold held
  subst hk
  exact congrArg (dtile arg1 harg1 arg2 harg2 x0 x1 _) (congrArg₂ ix2 (Fin.ext hj) (Fin.ext (by show 128 * q + l.1 = 128 * q + (y 1).1; rw [hl])))

theorem piece0_held (g k : ℕ) (x : (piece0 arg1 harg1 arg2 harg2 arg20 x0 x1 (8 * g + k % 8) k).1.shape.Idx) :
    (piece0 arg1 harg1 arg2 harg2 arg20 x0 x1 (8 * g + k % 8) k).2 x
      = held arg1 harg1 arg2 harg2 x0 x1 g 0 (by decide) ((piece0 arg1 harg1 arg2 harg2 arg20 x0 x1 (8 * g + k % 8) k).1.emb x) := by
  obtain ⟨j, l, rfl⟩ : ∃ (j : Fin 512) (l : Fin 128), x = ix2 j l := ⟨x 0, x 1, eq_ix2 x⟩
  unfold piece0
  rw [shapeCast_self]
  have hj := j.2
  have hl := l.2
  refine held_of _ _ _ _ _ _ _ _ _ _ _ _ _ _ ?_ ?_ ?_
  · show (k % 8 + 8 * j.1) % 8 = k % 8
    omega
  · show 0 + 1 * l.1 = l.1
    omega
  · show (j.1 + (512 - 4 * l.1)) % 512 = ((k % 8 + 8 * j.1) / 8 + (1024 - (4 * (0 + 1 * l.1) + 0))) % 512
    omega

theorem piece_held (g q k off lo n : ℕ) (hq : q < 4) (hk : k < 8) (h : n = 0 ∨ off + 8 * (n - 1) < 4096)
    (hs : S512x128.Slices ![lo, 0] ⟨2, ![n, 128]⟩) (hoff : off % 8 = k) (hlo : off / 8 + (512 - q) = lo ∨ off / 8 = lo + q)
    (x : (piece arg1 harg1 arg2 harg2 arg20 x0 x1 (8 * g + k) q off lo n h hs).1.shape.Idx) :
    (piece arg1 harg1 arg2 harg2 arg20 x0 x1 (8 * g + k) q off lo n h hs).2 x
      = held arg1 harg1 arg2 harg2 x0 x1 g q hq ((piece arg1 harg1 arg2 harg2 arg20 x0 x1 (8 * g + k) q off lo n h hs).1.emb x) := by
  obtain ⟨j, l, rfl⟩ : ∃ (j : Fin n) (l : Fin 128), x = ix2 j l := ⟨x 0, x 1, eq_ix2 (n0 := n) (n1 := 128) x⟩
  have hj := j.2
  have hl := l.2
  have hn : lo + n ≤ 512 := hs.2 0
  unfold piece
  rw [shapeCast_self]
  refine Eq.trans (b := skewed arg1 harg1 arg2 harg2 arg20 x0 x1 (8 * g + k) q (ix2 ⟨lo + j.1, by omega⟩ l)) ?_ ?_
  · refine congrArg (skewed arg1 harg1 arg2 harg2 arg20 x0 x1 (8 * g + k) q) ?_
    funext a
    refine Fin.ext ?_
    fin_cases a
    · rfl
    · show 0 + l.1 = l.1
      omega
  refine held_of _ _ _ _ _ _ _ _ _ _ _ _ _ _ ?_ ?_ ?_
  · show (off + 8 * j.1) % 8 = k
    omega
  · show 0 + 1 * l.1 = l.1
    omega
  · show (lo + j.1 + (512 - 4 * l.1)) % 512 = ((off + 8 * j.1) / 8 + (1024 - (4 * (0 + 1 * l.1) + q))) % 512
    omega

theorem pcsN_held (g q n : ℕ) (hq : q < 4) (hn : n ≤ 8) :
    ∀ p ∈ pcsN arg1 harg1 arg2 harg2 arg20 x0 x1 g q n, ∀ x : p.1.shape.Idx, p.2 x = held arg1 harg1 arg2 harg2 x0 x1 g q hq (p.1.emb x) := by
  induction n with
  | zero => intro p hp; exact absurd hp List.not_mem_nil
  | succ k ih =>
    have hk8 : k % 8 = k := by omega
    intro p hp
    rcases q with _ | q
    · rcases List.mem_cons.1 hp with rfl | hp
      · have := piece0_held arg1 harg1 arg2 harg2 arg20 x0 x1 g k
        rwa [hk8] at this
      · exact ih (by omega) p hp
    · rcases List.mem_cons.1 hp with rfl | hp
      · exact piece_held _ _ _ _ _ _ _ _ _ _ _ _ _ _ (by omega) _ _ (by omega) (by omega)
      · rcases List.mem_cons.1 hp with rfl | hp
        · exact piece_held _ _ _ _ _ _ _ _ _ _ _ _ _ _ (by omega) _ _ (by omega) (by omega)
        · exact ih (by omega) p hp

theorem pcsN_cover (g q n : ℕ) (hq : q < 4) (hn : n ≤ 8) (y : S4096x128.Idx) (hy : (y 0).1 % 8 < n) :
    ∃ p ∈ pcsN arg1 harg1 arg2 harg2 arg20 x0 x1 g q n, y ∈ p.1.set := by
  induction n with
  | zero => omega
  | succ k ih =>
    have h0 : (y 0).1 < 4096 := (y 0).2
    have h1 : (y 1).1 < 128 := (y 1).2
    by_cases hk : (y 0).1 % 8 < k
    · obtain ⟨p, hp, hm⟩ := ih (by omega) hk
      refine ⟨p, ?_, hm⟩
      rcases q with _ | q
      · exact List.mem_cons_of_mem _ hp
      · exact List.mem_cons_of_mem _ (List.mem_cons_of_mem _ hp)
    · rcases q with _ | q
      · refine ⟨_, List.mem_cons_self, (LoadRect.mem_set _).2 fun a => ?_⟩
        fin_cases a
        · exact ⟨(y 0).1 / 8, by show _ < 512; omega, by show (y 0).1 = k % 8 + 8 * ((y 0).1 / 8); omega⟩
        · exact ⟨(y 1).1, h1, by show (y 1).1 = 0 + 1 * (y 1).1; omega⟩
      · by_cases hr : (y 0).1 / 8 < q + 1
        · refine ⟨_, List.mem_cons_self, (LoadRect.mem_set _).2 fun a => ?_⟩
          fin_cases a
          · exact ⟨(y 0).1 / 8, by show _ < (q + 1) % 4; omega, by show (y 0).1 = k % 8 + 8 * ((y 0).1 / 8); omega⟩
          · exact ⟨(y 1).1, h1, by show (y 1).1 = 0 + 1 * (y 1).1; omega⟩
        · refine ⟨_, List.mem_cons_of_mem _ List.mem_cons_self, (LoadRect.mem_set _).2 fun a => ?_⟩
          fin_cases a
          · exact ⟨(y 0).1 / 8 - (q + 1), by show _ < 512 - (q + 1) % 4; omega,
              by show (y 0).1 = 8 * ((q + 1) % 4) + k % 8 + 8 * ((y 0).1 / 8 - (q + 1)); omega⟩
          · exact ⟨(y 1).1, h1, by show (y 1).1 = 0 + 1 * (y 1).1; omega⟩

theorem pcs_held (g q : ℕ) (hq : q < 4) (y : S4096x128.Idx) :
    View.canon (pcs arg1 harg1 arg2 harg2 arg20 x0 x1 g q) y = held arg1 harg1 arg2 harg2 x0 x1 g q hq y :=
  View.canon_apply_of_pieces _ _ (pcsN_held arg1 harg1 arg2 harg2 arg20 x0 x1 g q 8 hq le_rfl) y
    (pcsN_cover arg1 harg1 arg2 harg2 arg20 x0 x1 g q 8 hq le_rfl y (Nat.mod_lt _ (by decide)))

end

end Cert.Proof.KModel
-- ==== Proof.SoftMath.lean ====
/-
  The real arithmetic behind the two programs, with no program in it.

  `diag` is the wavefront of the soft dynamic-time-warping table on the reals: the pair of anti-diagonals a step reads.
  `Rep v w t` says that a pair of extended reals `(v, w)` stands for the real `t` as `t = v − log w`, `v` real and `w` a
  positive real: the kernel carries such pairs, the reference the number itself. `rep_min` is one cell of the kernel's
  step, `ref_cell` one cell of the reference's.
-/
module

public import Idealize.ShloMosaic.PureOps
public import Idealize.ShloMosaic.PureOps.Ideal
public import Idealize.ShloMosaic.Lib.IdealHost

@[expose] public section

noncomputable section

open Idealize.ShloMosaic

namespace Cert.Proof.Soft

/-- The soft minimum of three reals, with unit temperature. -/
def softmin (a b c : ℝ) : ℝ := -Real.log (Real.exp (-a) + Real.exp (-b) + Real.exp (-c))

/-- A sequence moved one place up, `v` entering at place zero. -/
def up (v : ℝ) (f : ℕ → ℝ) (i : ℕ) : ℝ := if i = 0 then v else f (i - 1)

/-- What a step reads of the anti-diagonal two back: the table's origin at the first step. -/
def corner (L : ℝ) (p : ℕ) (f : ℕ → ℝ) (i : ℕ) : ℝ := if i = 0 ∧ p = 0 then 0 else up L f i

/-- Step `p`: the next anti-diagonal of the two before it; `L` outside the table. -/
def next (L : ℝ) (D : ℕ → ℕ → ℝ) (p : ℕ) (f₂ f₁ : ℕ → ℝ) (i : ℕ) : ℝ :=
  if i ≤ p ∧ p < i + 512 then D i (p - i) + softmin (corner L p f₂ i) (up L f₁ i) (f₁ i) else L

/-- The two anti-diagonals before step `p`. -/
def diag (L : ℝ) (D : ℕ → ℕ → ℝ) : ℕ → (ℕ → ℝ) × (ℕ → ℝ)
  | 0 => (fun _ => L, fun _ => L)
  | p + 1 => ((diag L D p).2, next L D p (diag L D p).1 (diag L D p).2)

/-- The pair `(v, w)` stands for `t`. -/
def Rep (v w : EReal) (t : ℝ) : Prop := ∃ α ρ : ℝ, v = α ∧ w = ρ ∧ 0 < ρ ∧ t = α - Real.log ρ

theorem Rep.one {x : EReal} {t : ℝ} (h : x = t) : Rep x 1 t :=
  ⟨t, 1, h, by simp, one_pos, by simp⟩

theorem coe_min (a b : ℝ) : min (a : EReal) (b : EReal) = ((min a b : ℝ) : EReal) :=
  (EReal.coe_strictMono.monotone.map_min).symm

theorem coe_max (a b : ℝ) : max (a : EReal) (b : EReal) = ((max a b : ℝ) : EReal) :=
  (EReal.coe_strictMono.monotone.map_max).symm

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- One cell of the kernel's step. -/
theorem rep_min {a₂ a₁ a₀ r₂ r₁ r₀ d : EReal} {t₂ t₁ t₀ δ : ℝ} (h₂ : Rep a₂ r₂ t₂) (h₁ : Rep a₁ r₁ t₁)
    (h₀ : Rep a₀ r₀ t₀) (hd : d = δ) :
    Rep (d + min (min a₂ a₁) a₀)
      (r₂ * Ideal.exp (min (min a₂ a₁) a₀ - a₂) + r₁ * Ideal.exp (min (min a₂ a₁) a₀ - a₁)
        + r₀ * Ideal.exp (min (min a₂ a₁) a₀ - a₀)) (δ + softmin t₂ t₁ t₀) := by
  obtain ⟨α₂, ρ₂, rfl, rfl, p₂, rfl⟩ := h₂
  obtain ⟨α₁, ρ₁, rfl, rfl, p₁, rfl⟩ := h₁
  obtain ⟨α₀, ρ₀, rfl, rfl, p₀, rfl⟩ := h₀
  subst hd
  rw [coe_min, coe_min]
  set s := min (min α₂ α₁) α₀ with hs
  simp only [← EReal.coe_sub, Ideal.exp_coe, ← EReal.coe_mul, ← EReal.coe_add]
  refine ⟨_, _, rfl, rfl, by positivity, ?_⟩
  have key : ∀ α ρ : ℝ, 0 < ρ → Real.exp (-(α - Real.log ρ)) = Real.exp (-s) * (ρ * Real.exp (s - α)) := by
    intro α ρ hρ
    rw [show -(α - Real.log ρ) = Real.log ρ + (-s + (s - α)) by ring, Real.exp_add, Real.exp_add, Real.exp_log hρ]
    ring
  have hpos : 0 < ρ₂ * Real.exp (s - α₂) + ρ₁ * Real.exp (s - α₁) + ρ₀ * Real.exp (s - α₀) := by positivity
  unfold softmin
  rw [key _ _ p₂, key _ _ p₁, key _ _ p₀, ← mul_add, ← mul_add,
    Real.log_mul (Real.exp_pos _).ne' hpos.ne', Real.log_exp]
  ring

theorem div_one_coe (a : ℝ) : Ideal.div (a : EReal) 1 = a := by
  unfold Ideal.div
  simp

/-- One cell of the reference's step. -/
theorem ref_cell (t₂ t₁ t₀ δ : ℝ) :
    (δ : EReal) + (((-1 : ℝ) : EReal) * (Ideal.log (
      Ideal.exp (Ideal.div (-(t₂ : EReal)) 1 - max (max (Ideal.div (-(t₂ : EReal)) 1) (Ideal.div (-(t₁ : EReal)) 1)) (Ideal.div (-(t₀ : EReal)) 1))
      + Ideal.exp (Ideal.div (-(t₁ : EReal)) 1 - max (max (Ideal.div (-(t₂ : EReal)) 1) (Ideal.div (-(t₁ : EReal)) 1)) (Ideal.div (-(t₀ : EReal)) 1))
      + Ideal.exp (Ideal.div (-(t₀ : EReal)) 1 - max (max (Ideal.div (-(t₂ : EReal)) 1) (Ideal.div (-(t₁ : EReal)) 1)) (Ideal.div (-(t₀ : EReal)) 1)))
      + max (max (Ideal.div (-(t₂ : EReal)) 1) (Ideal.div (-(t₁ : EReal)) 1)) (Ideal.div (-(t₀ : EReal)) 1)))
    = ((δ + softmin t₂ t₁ t₀ : ℝ) : EReal) := by
  simp only [← EReal.coe_neg, div_one_coe, coe_max]
  set s := max (max (-t₂) (-t₁)) (-t₀) with hs
  simp only [← EReal.coe_sub, Ideal.exp_coe, ← EReal.coe_add]
  have hpos : 0 < Real.exp (-t₂ - s) + Real.exp (-t₁ - s) + Real.exp (-t₀ - s) := by positivity
  rw [Ideal.log_coe, if_neg (not_le.mpr hpos)]
  simp only [← EReal.coe_add, ← EReal.coe_mul]
  refine congrArg _ ?_
  have key : ∀ t : ℝ, Real.exp (-t) = Real.exp s * Real.exp (-t - s) := by
    intro t
    rw [← Real.exp_add]
    ring_nf
  unfold softmin
  rw [key t₂, key t₁, key t₀, ← mul_add, ← mul_add, Real.log_mul (Real.exp_pos _).ne' hpos.ne', Real.log_exp]
  ring

/-- The number a pair stands for, read back. -/
theorem Rep.read {v w : EReal} {t : ℝ} (h : Rep v w t) : v - 1 * Ideal.log w = t := by
  obtain ⟨α, ρ, rfl, rfl, hρ, rfl⟩ := h
  rw [Ideal.log_coe, if_neg (not_le.mpr hρ), one_mul]
  rfl

end Cert.Proof.Soft

end
-- ==== Proof.KTile.lean ====
/-
  The kernel's table of distances on real inputs, and one step of its wavefront read at a cell.
-/
module

public import proofs.«01_k».proof.Proof.KRead
public import proofs.«01_k».proof.Proof.SoftMath

@[expose] public section

set_option maxRecDepth 16384

noncomputable section

open Idealize.ShloMosaic

namespace Cert.Proof.KModel

open Cert.KernelIdeal Cert.KernelIdeal.Gen Cert.Proof.Soft

theorem minus_two_bits : Ideal.ofBits .f32 0xC0000000#32 = ((-2 : ℝ) : EReal) := by
  simp [Ideal.ofBits, Ideal.ieee]
  rw [← EReal.coe_mul]
  norm_num

theorem pay196_apply (v2 v4 : Vec Ideal S1x64x512 .f32) (j l : Fin 512) (X Y : Fin 64 → ℝ)
    (hX : ∀ d, v2 (ix3 0 d l) = ((X d : ℝ) : EReal)) (hY : ∀ d, v4 (ix3 0 d j) = ((Y d : ℝ) : EReal)) :
    k0_pay196 (F := Ideal) v2 v4 (ix2 j l) = ((∑ d, X d * X d + ∑ d, Y d * Y d - 2 * ∑ d, X d * Y d : ℝ) : EReal) := by
  pointwise [k0_pay196, k0_pay195]
  rw [Fin.sum_univ_castSucc (n := 65), Fin.sum_univ_castSucc (n := 64)]
  simp only [hX, hY, Fin.val_castSucc, Fin.val_last, Fin.is_lt, dite_true, Fin.eta, ← EReal.coe_mul, coe_sum]
  rw [show Ideal.ofBits FTy.f32 3221225472#32 = ((-2 : ℝ) : EReal) from minus_two_bits]
  simp only [← EReal.coe_mul, coe_sum]
  norm_num
  simp only [← EReal.coe_add, ← EReal.coe_mul, ← EReal.coe_sub, ← EReal.coe_neg]
  refine congrArg _ ?_
  rw [Finset.mul_sum]
  have : ∀ d, 2 * Y d * X d = 2 * (X d * Y d) := fun d => by ring
  simp only [this]
  ring

/-- The kernel's wavefront before step `p`, batch by batch and row by row, stands for the real one. -/
def Inv (L : ℝ) (D : ℕ → ℕ → ℕ → ℝ) (p : ℕ) (s : St Ideal) : Prop :=
  ∀ (b : Fin 32) (l : Fin 128) (q : ℕ), q < 4 →
    Rep (s.a q (ix2 b l)) (s.r q (ix2 b l)) ((diag L (D b.1) p).2 (4 * l.1 + q)) ∧
    Rep (s.ash q (ix2 b l)) (s.rs q (ix2 b l)) (up L (diag L (D b.1) p).2 (4 * l.1 + q)) ∧
    Rep (s.a2 q (ix2 b l)) (s.r2 q (ix2 b l)) (corner L p (diag L (D b.1) p).1 (4 * l.1 + q))

theorem large_bits (L : ℝ) (hL : Ideal.ofBits .f32 0x7149F2CA#32 = ((L : ℝ) : EReal)) (b : Fin 32) (l : Fin 128) :
    k0_pay1059 (F := Ideal) (ix2 b l) = ((L : ℝ) : EReal) := by
  rw [← hL]
  pointwise [k0_pay1059]

theorem ones_bits (b : Fin 32) (l : Fin 128) : k0_pay1060 (F := Ideal) (ix2 b l) = 1 := by
  pointwise [k0_pay1060]

theorem start_inv (L : ℝ) (hL : Ideal.ofBits .f32 0x7149F2CA#32 = ((L : ℝ) : EReal)) (D : ℕ → ℕ → ℕ → ℝ) : Inv L D 0 start := by
  intro b l q hq
  refine ⟨?_, ?_, ?_⟩
  · show Rep (k0_pay1059 (F := Ideal) (ix2 b l)) (k0_pay1060 (F := Ideal) (ix2 b l)) L
    rw [ones_bits]
    exact Rep.one (large_bits L hL b l)
  · show Rep (k0_pay1059 (F := Ideal) (ix2 b l)) (k0_pay1060 (F := Ideal) (ix2 b l)) _
    rw [ones_bits]
    refine Rep.one ((large_bits L hL b l).trans ?_)
    unfold up
    simp [diag]
  · show Rep (sel4 (k0_pay1061 (F := Ideal)) k0_pay1059 k0_pay1059 k0_pay1059 q (ix2 b l)) (k0_pay1060 (F := Ideal) (ix2 b l)) _
    rw [ones_bits]
    refine Rep.one ?_
    have hup : up L (diag L (D b.1) 0).1 (4 * l.1 + q) = L := by
      unfold up
      simp [diag]
    unfold corner
    rw [hup]
    match q, hq with
    | 0, _ =>
      show k0_pay1061 (F := Ideal) (ix2 b l) = _
      have h1 : k0_pay1061 (F := Ideal) (ix2 b l) = if l.1 = 0 then 0 else ((L : ℝ) : EReal) := by
        rw [← hL]
        have hl : ∀ l : Fin 128, IntOp.cmpi CmpIPredicate.eq (BitVec.ofNat 32 l.1) 0#32 = if l.1 = 0 then 1#1 else 0#1 := by
          decide +kernel
        pointwise [k0_pay1061]
        rw [hl]
        by_cases h : l.1 = 0
        · rw [if_pos h, if_pos h]; rfl
        · rw [if_neg h, if_neg h]; rfl
      rw [h1]
      by_cases h : l.1 = 0
      · rw [if_pos h, if_pos (by omega)]; simp
      · rw [if_neg h, if_neg (by omega)]
    | 1, _ => rw [if_neg (by omega)]; exact large_bits L hL b l
    | 2, _ => rw [if_neg (by omega)]; exact large_bits L hL b l
    | 3, _ => rw [if_neg (by omega)]; exact large_bits L hL b l

/-- Which cells a diagonal has. -/
theorem valid_apply (p q : ℕ) (hp : p ≤ 1022) (hq : q < 4) (b : Fin 32) (l : Fin 128) :
    valid (BitVec.ofNat 32 p) (BitVec.ofNat 32 q) (ix2 b l)
      = if 4 * l.1 + q ≤ p ∧ p < 4 * l.1 + q + 512 then 1#1 else 0#1 := by
  have hl := l.2
  pointwise [valid, k0_pay1056]
  show BitVec.ofBool (BitVec.ult (BitVec.ofNat 32 p - (BitVec.ofNat 32 l.1 * 4#32 + BitVec.ofNat 32 q)) 512#32) = _
  have h4 : BitVec.ofNat 32 l.1 * 4#32 + BitVec.ofNat 32 q = BitVec.ofNat 32 (4 * l.1 + q) := by
    apply BitVec.eq_of_toNat_eq
    simp only [BitVec.toNat_add, BitVec.toNat_mul, BitVec.toNat_ofNat]
    omega
  rw [h4]
  have hu : BitVec.ult (BitVec.ofNat 32 p - BitVec.ofNat 32 (4 * l.1 + q)) 512#32 = decide (4 * l.1 + q ≤ p ∧ p < 4 * l.1 + q + 512) := by
    unfold BitVec.ult
    simp only [BitVec.toNat_sub, BitVec.toNat_ofNat]
    refine decide_eq_decide.2 ?_
    omega
  rw [hu]
  by_cases h : 4 * l.1 + q ≤ p ∧ p < 4 * l.1 + q + 512
  · rw [if_pos h, decide_eq_true h]; rfl
  · rw [if_neg h, decide_eq_false h]; rfl

theorem select_apply (c : IVec S32x128 1) (x y : FVec Ideal S32x128 .f32) (i : S32x128.Idx) :
    select c x y i = if c i = 1#1 then x i else y i := rfl

/-- One cell of a step. -/
theorem new_rep (L : ℝ) (hL : Ideal.ofBits .f32 0x7149F2CA#32 = ((L : ℝ) : EReal)) (D : ℕ → ℕ → ℕ → ℝ) (p q : ℕ) (hp : p ≤ 1022) (hq : q < 4)
    (d : ℕ → FVec Ideal S32x128 .f32) (s : St Ideal) (hs : Inv L D p s) (b : Fin 32) (l : Fin 128)
    (hd : 4 * l.1 + q ≤ p → p < 4 * l.1 + q + 512 → d q (ix2 b l) = ((D b.1 (4 * l.1 + q) (p - (4 * l.1 + q)) : ℝ) : EReal)) :
    Rep ((sub (BitVec.ofNat 32 p) d s).a q (ix2 b l)) ((sub (BitVec.ofNat 32 p) d s).r q (ix2 b l)) ((diag L (D b.1) (p + 1)).2 (4 * l.1 + q)) := by
  obtain ⟨h0, h1, h2⟩ := hs b l q hq
  show Rep (newA _ _ (d q) (s.a q) (s.ash q) (s.a2 q) (ix2 b l)) (newR _ _ (s.a q) (s.ash q) (s.a2 q) (s.r q) (s.rs q) (s.r2 q) (ix2 b l))
    (next L (D b.1) p (diag L (D b.1) p).1 (diag L (D b.1) p).2 (4 * l.1 + q))
  unfold newA newR next
  rw [select_apply, select_apply, valid_apply p q hp hq]
  by_cases h : 4 * l.1 + q ≤ p ∧ p < 4 * l.1 + q + 512
  · rw [if_pos h, if_pos rfl, if_pos rfl, if_pos h]
    exact rep_min h2 h1 h0 (hd h.1 h.2)
  · rw [if_neg h, if_neg (by decide), if_neg (by decide), if_neg h, ones_bits]
    exact Rep.one (large_bits L hL b l)

theorem shift_apply (v : FVec Ideal S32x1 .f32) (x : FVec Ideal S32x128 .f32) (b : Fin 32) (l : Fin 128) :
    shift v x (ix2 b l) = if h : l.1 < 1 then v (ix2 b 0) else x (ix2 b ⟨l.1 - 1, by omega⟩) := by
  pointwise [shift]
  split
  · exact congrArg v (congrArg₂ ix2 rfl (Fin.ext (by show l.1 = 0; omega)))
  · rfl

/-- A step keeps the invariant. -/
theorem sub_inv (L : ℝ) (hL : Ideal.ofBits .f32 0x7149F2CA#32 = ((L : ℝ) : EReal)) (D : ℕ → ℕ → ℕ → ℝ) (p : ℕ) (hp : p ≤ 1022)
    (d : ℕ → FVec Ideal S32x128 .f32) (s : St Ideal) (hs : Inv L D p s)
    (hd : ∀ (b : Fin 32) (l : Fin 128) (q : ℕ), q < 4 → 4 * l.1 + q ≤ p → p < 4 * l.1 + q + 512 →
      d q (ix2 b l) = ((D b.1 (4 * l.1 + q) (p - (4 * l.1 + q)) : ℝ) : EReal)) :
    Inv L D (p + 1) (sub (BitVec.ofNat 32 p) d s) := by
  have hn : ∀ (b : Fin 32) (l : Fin 128) (q : ℕ), q < 4 → _ := fun b l q hq => new_rep L hL D p q hp hq d s hs b l (hd b l q hq)
  intro b l q hq
  refine ⟨hn b l q hq, ?_, ?_⟩
  · have hup : ∀ (r : ℕ), r < 3 → up L (diag L (D b.1) (p + 1)).2 (4 * l.1 + (r + 1)) = (diag L (D b.1) (p + 1)).2 (4 * l.1 + r) := by
      intro r _
      unfold up
      rw [if_neg (by omega)]
      rfl
    match q, hq with
    | 0, _ =>
      show Rep (shift (F := Ideal) k0_pay1057 _ (ix2 b l)) (shift (F := Ideal) k0_pay1058 _ (ix2 b l)) _
      rw [shift_apply, shift_apply]
      by_cases h : l.1 < 1
      · rw [dif_pos h, dif_pos h]
        unfold up
        rw [if_pos (by omega)]
        have h1 : k0_pay1058 (F := Ideal) (ix2 b 0) = 1 := by pointwise [k0_pay1058]
        have h2 : k0_pay1057 (F := Ideal) (ix2 b 0) = ((L : ℝ) : EReal) := by rw [← hL]; pointwise [k0_pay1057]
        rw [h1]
        exact Rep.one h2
      · rw [dif_neg h, dif_neg h]
        unfold up
        rw [if_neg (by omega)]
        have := hn b ⟨l.1 - 1, by omega⟩ 3 (by decide)
        rwa [show 4 * (l.1 - 1) + 3 = 4 * l.1 + 0 - 1 by omega] at this
    | 1, _ => rw [hup 0 (by decide)]; exact hn b l 0 (by decide)
    | 2, _ => rw [hup 1 (by decide)]; exact hn b l 1 (by decide)
    | 3, _ => rw [hup 2 (by decide)]; exact hn b l 2 (by decide)
  · have := (hs b l q hq).2.1
    unfold corner
    rw [if_neg (by omega)]
    exact this

/-- The buffers hold the distances of `D`. -/
def Holds (rd : Reader Ideal) (D : ℕ → ℕ → ℕ → ℝ) : Prop :=
  ∀ (g q : ℕ), g < 4 → q < 4 → ∀ (B : LoadRect S4096x128) (x : B.shape.Idx),
    rd g q B x = ((D (8 * g + (B.idx x 0).1 % 8) (4 * (B.idx x 1).1 + q) (((B.idx x 0).1 / 8 + (1024 - (4 * (B.idx x 1).1 + q))) % 512) : ℝ) : EReal)

theorem holds_at (rd : Reader Ideal) (D : ℕ → ℕ → ℕ → ℝ) (hr : Holds rd D) (p q g : ℕ) (hq : q < 4) (hg : g < 4) (B : LoadRect S4096x128) (x : B.shape.Idx)
    (c l : ℕ) (hc : c < 8) (h0 : (B.idx x 0).1 = 8 * (p % 512) + c) (h1 : (B.idx x 1).1 = l) (hi : 4 * l + q ≤ p) (hi' : p < 4 * l + q + 512) :
    rd g q B x = ((D (8 * g + c) (4 * l + q) (p - (4 * l + q)) : ℝ) : EReal) := by
  have hl : (B.idx x 1).1 < 128 := (B.idx x 1).2
  rw [hr g q hg hq, h0, h1]
  rw [show (8 * (p % 512) + c) % 8 = c by omega, show ((8 * (p % 512) + c) / 8 + (1024 - (4 * l + q))) % 512 = p - (4 * l + q) by omega]

theorem tile_apply (rd : Reader Ideal) (D : ℕ → ℕ → ℕ → ℝ) (hr : Holds rd D) (p q : ℕ) (hq : q < 4) (off : Fin 2 → ℕ)
    (h : ∀ a, off a + S8x128.size a ≤ S4096x128.size a) (h0 : off 0 = 8 * (p % 512)) (h1 : off 1 = 0) (b : Fin 32) (l : Fin 128)
    (hi : 4 * l.1 + q ≤ p) (hi' : p < 4 * l.1 + q + 512) :
    tile rd off h q (ix2 b l) = ((D b.1 (4 * l.1 + q) (p - (4 * l.1 + q)) : ℝ) : EReal) := by
  have hb := b.2
  pointwise [tile]
  have key : ∀ (g c : ℕ) (hc : c < 8), g < 4 → rd g q (Rect.unit (s := S4096x128) off ![8, 128] h).toLoadRect (ix2 ⟨c, hc⟩ l)
      = ((D (8 * g + c) (4 * l.1 + q) (p - (4 * l.1 + q)) : ℝ) : EReal) := by
    intro g c hc hg
    refine holds_at rd D hr p q g hq hg _ _ c l.1 hc ?_ ?_ hi hi'
    · show off 0 + 1 * c = _
      omega
    · show off 1 + 1 * l.1 = _
      omega
  split
  · rw [key 0 _ _ (by decide)]; congr 3; omega
  split
  · rw [key 1 _ _ (by decide)]; congr 3; omega
  split
  · rw [key 2 _ _ (by decide)]; congr 3; omega
  · rw [key 3 _ (by omega) (by decide)]; congr 3; omega

theorem pw_eq : ∀ (k : Fin k0_t1_loop.trips) (u : Fin 8), pw k u.1 = BitVec.ofNat 32 (8 * k.1 + u.1) := by decide +kernel

theorem off_eq : ∀ (k : Fin k0_t1_loop.trips) (u : Fin 8),
    k0_off1 k (BitVec.ofNat 32 (8 * u.1)) 0 = 8 * ((8 * k.1 + u.1) % 512) ∧ k0_off1 k (BitVec.ofNat 32 (8 * u.1)) 1 = 0 := by decide +kernel

theorem trips_eq : k0_t1_loop.trips = 127 := by decide +kernel

theorem tripStep_inv (L : ℝ) (hL : Ideal.ofBits .f32 0x7149F2CA#32 = ((L : ℝ) : EReal)) (D : ℕ → ℕ → ℕ → ℝ) (rd : Reader Ideal) (hr : Holds rd D)
    (k : Fin k0_t1_loop.trips) (u : Fin 8) (s : St Ideal) (p : ℕ) (hp : p = 8 * k.1 + u.1) (hs : Inv L D p s) :
    Inv L D (p + 1) (tripStep rd k u s) := by
  have hk : k.1 < 127 := trips_eq ▸ k.2
  have hu := u.2
  unfold tripStep
  rw [pw_eq, ← hp]
  refine sub_inv L hL D p (by omega) _ s hs fun b l q hq hi hi' => ?_
  exact tile_apply rd D hr p q hq _ _ (by rw [hp]; exact (off_eq k u).1) (off_eq k u).2 b l hi hi'

theorem trip_inv (L : ℝ) (hL : Ideal.ofBits .f32 0x7149F2CA#32 = ((L : ℝ) : EReal)) (D : ℕ → ℕ → ℕ → ℝ) (rd : Reader Ideal) (hr : Holds rd D)
    (k : Fin k0_t1_loop.trips) (s : St Ideal) (hs : Inv L D (8 * k.1) s) : Inv L D (8 * (k.1 + 1)) (trip rd k s) := by
  have h := tripStep_inv L hL D rd hr k
  exact h 7 _ _ rfl <| h 6 _ _ rfl <| h 5 _ _ rfl <| h 4 _ _ rfl <| h 3 _ _ rfl <| h 2 _ _ rfl <| h 1 _ _ rfl <| h 0 _ _ rfl hs

theorem tailStep_inv (L : ℝ) (hL : Ideal.ofBits .f32 0x7149F2CA#32 = ((L : ℝ) : EReal)) (D : ℕ → ℕ → ℕ → ℝ) (rd : Reader Ideal) (hr : Holds rd D)
    (u : Fin 7) (s : St Ideal) (hs : Inv L D (1016 + u.1) s) : Inv L D (1016 + u.1 + 1) (tailStep rd u s) := by
  have hu := u.2
  refine sub_inv L hL D (1016 + u.1) (by omega) _ s hs fun b l q hq hi hi' => ?_
  exact tile_apply rd D hr (1016 + u.1) q hq _ _ (by show 4032 + 8 * u.1 = _; omega) rfl b l hi hi'

theorem tail_inv (L : ℝ) (hL : Ideal.ofBits .f32 0x7149F2CA#32 = ((L : ℝ) : EReal)) (D : ℕ → ℕ → ℕ → ℝ) (rd : Reader Ideal) (hr : Holds rd D)
    (s : St Ideal) (hs : Inv L D 1016 s) : Inv L D 1023 (tail rd s) := by
  have h := tailStep_inv L hL D rd hr
  exact h 6 _ <| h 5 _ <| h 4 _ <| h 3 _ <| h 2 _ <| h 1 _ <| h 0 _ hs

/-- The place of the output the result is read from. -/
theorem outv_apply (L : ℝ) (D : ℕ → ℕ → ℕ → ℝ) (s : St Ideal) (hs : Inv L D 1023 s) (b : Fin 32) :
    outv s (ix3 0 b 511) = (((diag L (D b.1) 1023).2 511 : ℝ) : EReal) := by
  have h := ((hs b 127 3 (by decide)).1).read
  rw [one_mul] at h
  rw [← show (diag L (D b.1) 1023).2 (4 * (127 : Fin 128).1 + 3) = (diag L (D b.1) 1023).2 511 from rfl, ← h]
  pointwise [outv, k0_pay1060]

end Cert.Proof.KModel
-- ==== Proof.KLoop.lean ====
/-
  The block of the output the body leaves on real inputs: the buffers hold the distances, every trip of the loop keeps
  the invariant, the seven steps after it reach the last diagonal.
-/
module

public import proofs.«01_k».proof.Proof.KRun
public import proofs.«01_k».proof.Proof.KTile
public import proofs.«01_k».proof.Proof.Gen.KernelIdeal.Frame
public import Idealize.ShloMosaic.Lib.WholeRead

@[expose] public section

set_option maxRecDepth 65536

noncomputable section

open Idealize.ShloMosaic

namespace Cert.Proof.KModel

open Cert.KernelIdeal Cert.KernelIdeal.Gen Cert.Proof.Soft

/-- The squared distance between row `i` of `X` and row `j` of `Y` in batch `b`. -/
def cost (X Y : ℕ → ℕ → Fin 64 → ℝ) (b i j : ℕ) : ℝ :=
  ∑ d, X b i d * X b i d + ∑ d, Y b j d * Y b j d - 2 * ∑ d, X b i d * Y b j d

theorem inv_untup (L : ℝ) (D : ℕ → ℕ → ℕ → ℝ) (p : ℕ) (s : St Ideal) (hs : Inv L D p s) : Inv L D p (untup (tup s)) := by
  intro b l q hq
  have h := hs b l q hq
  interval_cases q <;> exact h

section
variable (X Y : ℕ → ℕ → Fin 64 → ℝ) (x0 x1 : Vec Ideal S32x64x512 .f32)
  (hX : ∀ (b : Fin 32) (d : Fin 64) (l : Fin 512), x0 (ix3 b d l) = ((X b.1 (4 * (l.1 % 128) + l.1 / 128) d : ℝ) : EReal))
  (hY : ∀ (b : Fin 32) (d : Fin 64) (j : Fin 512), x1 (ix3 b d j) = ((Y b.1 j.1 d : ℝ) : EReal))

include hX hY

theorem dtile_cost (arg1 : Memref sig .tc .vmem S32x64x512 .f32) (harg1 : arg1.IsWhole) (arg2 : Memref sig .tc .vmem S32x64x512 .f32) (harg2 : arg2.IsWhole)
    (b : ℕ) (hb : b < 32) (j l : Fin 512) :
    dtile arg1 harg1 arg2 harg2 x0 x1 b (ix2 j l) = ((cost X Y b (4 * (l.1 % 128) + l.1 / 128) j.1 : ℝ) : EReal) := by
  unfold dtile
  have hi : ∀ (d : Fin 64) (n : Fin 512),
      (Rect.unit (s := S32x64x512) ![b % 32, 0, 0] S1x64x512.size (batch_inb b)).toLoadRect.idx (ix3 0 d n) = ix3 ⟨b, hb⟩ d n := by
    intro d n
    funext a
    refine Fin.ext ?_
    fin_cases a
    · show b % 32 + 1 * 0 = b
      omega
    · show 0 + 1 * d.1 = d.1
      omega
    · show 0 + 1 * n.1 = n.1
      omega
  refine pay196_apply _ _ j l (X b (4 * (l.1 % 128) + l.1 / 128)) (Y b j.1) (fun d => ?_) (fun d => ?_)
  · rw [harg1.readAt_unread]
    exact (congrArg x0 (hi d l)).trans (hX ⟨b, hb⟩ d l)
  · rw [harg2.readAt_unread]
    exact (congrArg x1 (hi d j)).trans (hY ⟨b, hb⟩ d j)

theorem held_cost (arg1 : Memref sig .tc .vmem S32x64x512 .f32) (harg1 : arg1.IsWhole) (arg2 : Memref sig .tc .vmem S32x64x512 .f32) (harg2 : arg2.IsWhole)
    (g q : ℕ) (hg : g < 4) (hq : q < 4) (y : S4096x128.Idx) :
    held arg1 harg1 arg2 harg2 x0 x1 g q hq y
      = ((cost X Y (8 * g + (y 0).1 % 8) (4 * (y 1).1 + q) (((y 0).1 / 8 + (1024 - (4 * (y 1).1 + q))) % 512) : ℝ) : EReal) := by
  have h1 : (y 1).1 < 128 := (y 1).2
  unfold held
  rw [dtile_cost X Y x0 x1 hX hY _ _ _ _ _ (by omega)]
  show ((cost X Y _ (4 * ((128 * q + (y 1).1) % 128) + (128 * q + (y 1).1) / 128) _ : ℝ) : EReal) = _
  rw [show (128 * q + (y 1).1) % 128 = (y 1).1 by omega, show (128 * q + (y 1).1) / 128 = q by omega]

/-- One buffer after its stores, read anywhere. -/
theorem buffer_cost (arg1 : Memref sig .tc .vmem S32x64x512 .f32) (harg1 : arg1.IsWhole) (arg2 : Memref sig .tc .vmem S32x64x512 .f32) (harg2 : arg2.IsWhole)
    (arg20 : Memref sig .tc .vmem S512x512 .f32) (arg : Memref sig .tc .vmem S4096x128 .f32) (g q : ℕ) (hg : g < 4) (hq : q < 4) (B : LoadRect S4096x128) (x : B.shape.Idx) :
    View.readAt (Elt Ideal) arg.view B (arg.view.writes (Elt Ideal) arg.view.junk (pcs arg1 harg1 arg2 harg2 arg20 x0 x1 g q)) x
      = ((cost X Y (8 * g + (B.idx x 0).1 % 8) (4 * (B.idx x 1).1 + q) (((B.idx x 0).1 / 8 + (1024 - (4 * (B.idx x 1).1 + q))) % 512) : ℝ) : EReal) := by
  rw [View.readAt_writes_junk_eq_canon]
  exact (pcs_held arg1 harg1 arg2 harg2 arg20 x0 x1 g q hq _).trans (held_cost X Y x0 x1 hX hY _ _ _ _ _ _ hg hq _)

end

section
variable (c : Dev nD) (i : grid0.Coords)
  (arg1 : Memref sig .tc .vmem S32x64x512 .f32) (harg1 : arg1.IsWhole) (arg2 : Memref sig .tc .vmem S32x64x512 .f32) (harg2 : arg2.IsWhole)
  (arg3 : Memref sig .tc .vmem S1x32x512 .f32) (harg3 : arg3.IsWhole)
  (arg4 : Memref sig .tc .vmem S4096x128 .f32) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x128 .f32) (harg9 : arg9.IsWhole)
  (arg10 : Memref sig .tc .vmem S4096x128 .f32) (harg10 : arg10.IsWhole)
  (arg11 : Memref sig .tc .vmem S4096x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S512x512 .f32) (harg20 : arg20.IsWhole)

theorem reader_holds (X Y : ℕ → ℕ → Fin 64 → ℝ) (x0 x1 : Vec Ideal S32x64x512 .f32)
    (hX : ∀ (b : Fin 32) (d : Fin 64) (l : Fin 512), x0 (ix3 b d l) = ((X b.1 (4 * (l.1 % 128) + l.1 / 128) d : ℝ) : EReal))
    (hY : ∀ (b : Fin 32) (d : Fin 64) (j : Fin 512), x1 (ix3 b d j) = ((Y b.1 j.1 d : ℝ) : EReal)) :
    Holds (reader arg4 arg5 arg6 arg7 arg8 arg9 arg10 arg11 arg12 arg13 arg14 arg15 arg16 arg17 arg18 arg19 (arg4.view.writes (Elt Ideal) arg4.view.junk (pcs arg1 harg1 arg2 harg2 arg20 x0 x1 0 0)) (arg5.view.writes (Elt Ideal) arg5.view.junk (pcs arg1 harg1 arg2 harg2 arg20 x0 x1 0 1)) (arg6.view.writes (Elt Ideal) arg6.view.junk (pcs arg1 harg1 arg2 harg2 arg20 x0 x1 0 2)) (arg7.view.writes (Elt Ideal) arg7.view.junk (pcs arg1 harg1 arg2 harg2 arg20 x0 x1 0 3)) (arg8.view.writes (Elt Ideal) arg8.view.junk (pcs arg1 harg1 arg2 harg2 arg20 x0 x1 1 0)) (arg9.view.writes (Elt Ideal) arg9.view.junk (pcs arg1 harg1 arg2 harg2 arg20 x0 x1 1 1)) (arg10.view.writes (Elt Ideal) arg10.view.junk (pcs arg1 harg1 arg2 harg2 arg20 x0 x1 1 2)) (arg11.view.writes (Elt Ideal) arg11.view.junk (pcs arg1 harg1 arg2 harg2 arg20 x0 x1 1 3)) (arg12.view.writes (Elt Ideal) arg12.view.junk (pcs arg1 harg1 arg2 harg2 arg20 x0 x1 2 0)) (arg13.view.writes (Elt Ideal) arg13.view.junk (pcs arg1 harg1 arg2 harg2 arg20 x0 x1 2 1)) (arg14.view.writes (Elt Ideal) arg14.view.junk (pcs arg1 harg1 arg2 harg2 arg20 x0 x1 2 2)) (arg15.view.writes (Elt Ideal) arg15.view.junk (pcs arg1 harg1 arg2 harg2 arg20 x0 x1 2 3)) (arg16.view.writes (Elt Ideal) arg16.view.junk (pcs arg1 harg1 arg2 harg2 arg20 x0 x1 3 0)) (arg17.view.writes (Elt Ideal) arg17.view.junk (pcs arg1 harg1 arg2 harg2 arg20 x0 x1 3 1)) (arg18.view.writes (Elt Ideal) arg18.view.junk (pcs arg1 harg1 arg2 harg2 arg20 x0 x1 3 2)) (arg19.view.writes (Elt Ideal) arg19.view.junk (pcs arg1 harg1 arg2 harg2 arg20 x0 x1 3 3))) (cost X Y) := by
  intro g q hg hq B x
  interval_cases g <;> interval_cases q <;>
    exact buffer_cost X Y x0 x1 hX hY arg1 harg1 arg2 harg2 arg20 _ _ _ (by decide) (by decide) B x

theorem loop_inv
    (X4 : BufTy.Contents (Elt Ideal) arg4.view.ty)
  (X5 : BufTy.Contents (Elt Ideal) arg5.view.ty)
  (X6 : BufTy.Contents (Elt Ideal) arg6.view.ty)
  (X7 : BufTy.Contents (Elt Ideal) arg7.view.ty)
  (X8 : BufTy.Contents (Elt Ideal) arg8.view.ty)
  (X9 : BufTy.Contents (Elt Ideal) arg9.view.ty)
  (X10 : BufTy.Contents (Elt Ideal) arg10.view.ty)
  (X11 : BufTy.Contents (Elt Ideal) arg11.view.ty)
  (X12 : BufTy.Contents (Elt Ideal) arg12.view.ty)
  (X13 : BufTy.Contents (Elt Ideal) arg13.view.ty)
  (X14 : BufTy.Contents (Elt Ideal) arg14.view.ty)
  (X15 : BufTy.Contents (Elt Ideal) arg15.view.ty)
  (X16 : BufTy.Contents (Elt Ideal) arg16.view.ty)
  (X17 : BufTy.Contents (Elt Ideal) arg17.view.ty)
  (X18 : BufTy.Contents (Elt Ideal) arg18.view.ty)
  (X19 : BufTy.Contents (Elt Ideal) arg19.view.ty)
    (L : ℝ) (hL : Ideal.ofBits .f32 0x7149F2CA#32 = ((L : ℝ) : EReal)) (D : ℕ → ℕ → ℕ → ℝ) (hr : Holds (reader arg4 arg5 arg6 arg7 arg8 arg9 arg10 arg11 arg12 arg13 arg14 arg15 arg16 arg17 arg18 arg19 X4 X5 X6 X7 X8 X9 X10 X11 X12 X13 X14 X15 X16 X17 X18 X19) D) (n : ℕ) (hn : n ≤ 127) :
    Inv L D (8 * n) (untup (loopSt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X4 X5 X6 X7 X8 X9 X10 X11 X12 X13 X14 X15 X16 X17 X18 X19 n)) := by
  induction n with
  | zero => exact inv_untup L D 0 start (start_inv L hL D)
  | succ k ih =>
    have hk : k < k0_t1_loop.trips := by rw [trips_eq]; omega
    have e : loopSt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X4 X5 X6 X7 X8 X9 X10 X11 X12 X13 X14 X15 X16 X17 X18 X19 (k + 1)
        = tup (trip (reader arg4 arg5 arg6 arg7 arg8 arg9 arg10 arg11 arg12 arg13 arg14 arg15 arg16 arg17 arg18 arg19 X4 X5 X6 X7 X8 X9 X10 X11 X12 X13 X14 X15 X16 X17 X18 X19) ⟨k, hk⟩ (untup (loopSt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X4 X5 X6 X7 X8 X9 X10 X11 X12 X13 X14 X15 X16 X17 X18 X19 k))) :=
      (st_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay1056 k0_pay1057 k0_pay1058 k0_pay1059 k0_pay1060 X4 X5 X6 X7 X8 X9 X10 X11 X12 X13 X14 X15 X16 X17 X18 X19 (tup start) ⟨k, hk⟩).trans
        (trip_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X4 X5 X6 X7 X8 X9 X10 X11 X12 X13 X14 X15 X16 X17 X18 X19 ⟨k, hk⟩ _)
    rw [e]
    exact inv_untup L D _ _ (trip_inv L hL D _ hr ⟨k, hk⟩ _ (ih (by omega)))

/-- The place of the output block the result is read from. -/
theorem out_apply (X Y : ℕ → ℕ → Fin 64 → ℝ) (x0 x1 : Vec Ideal S32x64x512 .f32)
    (hX : ∀ (b : Fin 32) (d : Fin 64) (l : Fin 512), x0 (ix3 b d l) = ((X b.1 (4 * (l.1 % 128) + l.1 / 128) d : ℝ) : EReal))
    (hY : ∀ (b : Fin 32) (d : Fin 64) (j : Fin 512), x1 (ix3 b d j) = ((Y b.1 j.1 d : ℝ) : EReal))
    (L : ℝ) (hL : Ideal.ofBits .f32 0x7149F2CA#32 = ((L : ℝ) : EReal)) (b : Fin 32) :
    out0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 (ix3 0 b 511) = (((diag L (cost X Y b.1) 1023).2 511 : ℝ) : EReal) := by
  have hr := reader_holds arg1 harg1 arg2 harg2 arg4 arg5 arg6 arg7 arg8 arg9 arg10 arg11 arg12 arg13 arg14 arg15 arg16 arg17 arg18 arg19 arg20 X Y x0 x1 hX hY
  unfold out0_A_2
  rw [View.read_writes_junk_apply_eq_canon, run_eq]
  refine (congrFun (View.canon_unit_zero (by funext a; fin_cases a <;> rfl) _ _) _).trans ?_
  have hl := loop_inv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (arg4.view.writes (Elt Ideal) arg4.view.junk (pcs arg1 harg1 arg2 harg2 arg20 x0 x1 0 0)) (arg5.view.writes (Elt Ideal) arg5.view.junk (pcs arg1 harg1 arg2 harg2 arg20 x0 x1 0 1)) (arg6.view.writes (Elt Ideal) arg6.view.junk (pcs arg1 harg1 arg2 harg2 arg20 x0 x1 0 2)) (arg7.view.writes (Elt Ideal) arg7.view.junk (pcs arg1 harg1 arg2 harg2 arg20 x0 x1 0 3)) (arg8.view.writes (Elt Ideal) arg8.view.junk (pcs arg1 harg1 arg2 harg2 arg20 x0 x1 1 0)) (arg9.view.writes (Elt Ideal) arg9.view.junk (pcs arg1 harg1 arg2 harg2 arg20 x0 x1 1 1)) (arg10.view.writes (Elt Ideal) arg10.view.junk (pcs arg1 harg1 arg2 harg2 arg20 x0 x1 1 2)) (arg11.view.writes (Elt Ideal) arg11.view.junk (pcs arg1 harg1 arg2 harg2 arg20 x0 x1 1 3)) (arg12.view.writes (Elt Ideal) arg12.view.junk (pcs arg1 harg1 arg2 harg2 arg20 x0 x1 2 0)) (arg13.view.writes (Elt Ideal) arg13.view.junk (pcs arg1 harg1 arg2 harg2 arg20 x0 x1 2 1)) (arg14.view.writes (Elt Ideal) arg14.view.junk (pcs arg1 harg1 arg2 harg2 arg20 x0 x1 2 2)) (arg15.view.writes (Elt Ideal) arg15.view.junk (pcs arg1 harg1 arg2 harg2 arg20 x0 x1 2 3)) (arg16.view.writes (Elt Ideal) arg16.view.junk (pcs arg1 harg1 arg2 harg2 arg20 x0 x1 3 0)) (arg17.view.writes (Elt Ideal) arg17.view.junk (pcs arg1 harg1 arg2 harg2 arg20 x0 x1 3 1)) (arg18.view.writes (Elt Ideal) arg18.view.junk (pcs arg1 harg1 arg2 harg2 arg20 x0 x1 3 2)) (arg19.view.writes (Elt Ideal) arg19.view.junk (pcs arg1 harg1 arg2 harg2 arg20 x0 x1 3 3)) L hL _ hr 127 le_rfl
  refine outv_apply L (cost X Y) _ ?_ b
  exact tail_inv L hL (cost X Y) _ hr _ hl

end

end Cert.Proof.KModel
-- ==== Proof.KValue.lean ====
/-
  The kernel's result on real inputs: the host's rearrangement of the arguments, the blocks the launch reads, the array it
  writes, the column the host keeps.
-/
module

public import proofs.«01_k».proof.Proof.KLoop
public import Idealize.ShloMosaic.Lib.Pipeline.ValueKit

@[expose] public section

set_option maxRecDepth 16384

noncomputable section

open Idealize.ShloMosaic Idealize.ShloMosaic.TcCoe

namespace Cert.Proof.KModel

open Cert.KernelIdeal Cert.KernelIdeal.Gen Cert.Proof.Soft

variable (m : (ℓ : Loc nD τ sig) → Buf (Elt Ideal) ℓ)

theorem x_apply (c : Dev nD) (b : Fin 128) (d : Fin 64) (l : Fin 512) :
    (V m c main_v3 : Vec Ideal S128x64x512 .f32) (ix3 b d l)
      = (m ((c.tc : Thread nD τ).loc main_arg0) : Vec Ideal S128x512x64 .f32) (ix3 b ⟨4 * (l.1 % 128) + l.1 / 128, by omega⟩ d) := by
  have e : (V m c main_v3 : Vec Ideal S128x64x512 .f32)
      = shapeCast S128x64x512 (transpose S128x64x4x128 [0, 1, 3, 2] (shapeCast S128x64x128x4
          (transpose S128x64x512 [0, 2, 1] (m ((c.tc : Thread nD τ).loc main_arg0) : Vec Ideal S128x512x64 .f32) transposes_S128x512x64_S128x64x512_0_2_1)
          shapeCasts_S128x64x512_S128x64x128x4) transposes_S128x64x128x4_S128x64x4x128_0_1_3_2) shapeCasts_S128x64x4x128_S128x64x512 := by
    show StableHlo.after hostOps0 _ _ = _
    after_results
    rfl
  rw [e]
  pointwise
  exact congrArg (m ((c.tc : Thread nD τ).loc main_arg0) : Vec Ideal S128x512x64 .f32) (congrArg (fun i => ix3 b i d) (Fin.ext (by show l.1 % 128 * 4 + l.1 / 128 = 4 * (l.1 % 128) + l.1 / 128; omega)))

theorem y_apply (c : Dev nD) (b : Fin 128) (d : Fin 64) (j : Fin 512) :
    (V m c main_v4 : Vec Ideal S128x64x512 .f32) (ix3 b d j)
      = (m ((c.tc : Thread nD τ).loc main_arg1) : Vec Ideal S128x512x64 .f32) (ix3 b j d) := by
  have e : (V m c main_v4 : Vec Ideal S128x64x512 .f32)
      = transpose S128x64x512 [0, 2, 1] (m ((c.tc : Thread nD τ).loc main_arg1) : Vec Ideal S128x512x64 .f32) transposes_S128x512x64_S128x64x512_0_2_1 := by
    show StableHlo.after hostOps0 _ _ = _
    after_results
  rw [e]
  pointwise

theorem kept_apply (c : Dev nD) (G : Vec Ideal S4x32x512 .f32) (hG : (dats m 0 c).arrAt 2 cfg0.N = G) (n : Fin 128) :
    (Pipeline.afterTail₀ cfgs (dats m) 0 (V0 m) [hostOps1] c main_v8 : Vec Ideal S128 .f32) (ix1 n)
      = G (ix3 ⟨n.1 / 32, by omega⟩ ⟨n.1 % 32, by omega⟩ 511) := by
  have e : (Pipeline.afterTail₀ cfgs (dats m) 0 (V0 m) [hostOps1] c main_v8 : Vec Ideal S128 .f32)
      = shapeCast S128 (shapeCast S4x32 (extractStridedSlice S4x32x1 ![0, 0, 511] G slices_S4x32x512_S4x32x1_0_0_511)
          shapeCasts_S4x32x1_S4x32) shapeCasts_S4x32_S128 := by
    subst hG
    show StableHlo.after hostOps1 _ _ = _
    after_results
    erw [Pipeline.withArrays_arr spec0 launch0.win.arr_inj c (V0 m c) (fun w => (dats m 0 c).arrAt w cfg0.N) 2]
    rfl
  rw [e]
  pointwise

theorem index_x : ∀ t : Fin cfg0.N, win0_0.index t = ![t.1, 0, 0] := by decide +kernel
theorem index_y : ∀ t : Fin cfg0.N, win0_1.index t = ![t.1, 0, 0] := by decide +kernel
theorem index_o : ∀ t : Fin cfg0.N, win0_2.index t = ![t.1, 0, 0] := by decide +kernel

theorem points (t : Fin cfg0.N) : t.1 < 4 := lt_of_lt_of_eq t.2 (by decide +kernel)

theorem iblk_x (c : Dev nD) (t : Fin cfg0.N) (b : Fin 32) (d : Fin 64) (l : Fin 512) :
    (iblk m c 0 t : Vec Ideal S32x64x512 .f32) (ix3 b d l) = (V m c main_v3 : Vec Ideal S128x64x512 .f32) (ix3 ⟨32 * t.1 + b.1, by have := points t; omega⟩ d l) := by
  blk_simp [iblk]
  refine congrArg (V m c main_v3 : Vec Ideal S128x64x512 .f32) ?_
  blk_ext [index_x]

theorem iblk_y (c : Dev nD) (t : Fin cfg0.N) (b : Fin 32) (d : Fin 64) (j : Fin 512) :
    (iblk m c 1 t : Vec Ideal S32x64x512 .f32) (ix3 b d j) = (V m c main_v4 : Vec Ideal S128x64x512 .f32) (ix3 ⟨32 * t.1 + b.1, by have := points t; omega⟩ d j) := by
  blk_simp [iblk]
  refine congrArg (V m c main_v4 : Vec Ideal S128x64x512 .f32) ?_
  blk_ext [index_y]

theorem array_apply (c : Dev nD) (X Y : ℕ → ℕ → Fin 64 → ℝ)
    (hX : ∀ (b : Fin 128) (i : Fin 512) (d : Fin 64), (m ((c.tc : Thread nD τ).loc main_arg0) : Vec Ideal S128x512x64 .f32) (ix3 b i d) = ((X b.1 i.1 d : ℝ) : EReal))
    (hY : ∀ (b : Fin 128) (j : Fin 512) (d : Fin 64), (m ((c.tc : Thread nD τ).loc main_arg1) : Vec Ideal S128x512x64 .f32) (ix3 b j d) = ((Y b.1 j.1 d : ℝ) : EReal))
    (L : ℝ) (hL : Ideal.ofBits .f32 0x7149F2CA#32 = ((L : ℝ) : EReal)) (t : Fin 4) (b : Fin 32) :
    ((dats m 0 c).arrAt 2 cfg0.N : Vec Ideal S4x32x512 .f32) (ix3 t b 511) = (((diag L (cost X Y (32 * t.1 + b.1)) 1023).2 511 : ℝ) : EReal) := by
  refine (dats m 0 c).arrAt_forall_of_covers 2
    (fun (i : S4x32x512.Idx) v => (i 2).1 = 511 → v = (((diag L (cost X Y (32 * (i 0).1 + (i 1).1)) 1023).2 511 : ℝ) : EReal)) (by decide +kernel) (fun t hf y => ?_) (ix3 t b 511)
    (Memref.isWhole_whole _) rfl
  intro h
  revert h
  blk_simp [index_o]
  intro h
  rw [after0_2]
  have hy : y = ix3 0 (y 1) 511 := by
    funext a
    fin_cases a
    · exact Fin.ext (by have h0 : (y 0).1 < 1 := (y 0).2; show (y 0).1 = 0; omega)
    · rfl
    · exact Fin.ext h
  rw [hy]
  have ht := points t
  unfold outsAt0
  refine out_apply _ _ _ _ _ _ _ _ _ _ _ _ _ _ _ _ _ _ _ _ _ _ _ _ _ _ _ _ _ _ _ _ _ _ _ _ _ _ _ _ _ _
    (fun b i d => X (32 * t.1 + b) i d) (fun b j d => Y (32 * t.1 + b) j d) _ _ (fun b d l => ?_) (fun b d j => ?_) L hL (y 1)
  · exact (iblk_x m c t b d l).trans ((x_apply m c _ d l).trans (hX _ _ d))
  · exact (iblk_y m c t b d j).trans ((y_apply m c _ d j).trans (hY _ _ d))

/-- The kernel's result. -/
theorem kernel_value (c : Dev nD) (X Y : ℕ → ℕ → Fin 64 → ℝ)
    (hX : ∀ (b : Fin 128) (i : Fin 512) (d : Fin 64), (m ((c.tc : Thread nD τ).loc main_arg0) : Vec Ideal S128x512x64 .f32) (ix3 b i d) = ((X b.1 i.1 d : ℝ) : EReal))
    (hY : ∀ (b : Fin 128) (j : Fin 512) (d : Fin 64), (m ((c.tc : Thread nD τ).loc main_arg1) : Vec Ideal S128x512x64 .f32) (ix3 b j d) = ((Y b.1 j.1 d : ℝ) : EReal))
    (L : ℝ) (hL : Ideal.ofBits .f32 0x7149F2CA#32 = ((L : ℝ) : EReal)) :
    (Pipeline.afterTail₀ cfgs (dats m) 0 (V0 m) [hostOps1] c main_v8 : Vec Ideal S128 .f32)
      = fun i => (((diag L (cost X Y (i 0).1) 1023).2 511 : ℝ) : EReal) := by
  funext i
  obtain ⟨n, rfl⟩ : ∃ n : Fin 128, i = ix1 n := ⟨i 0, eq_ix1 i⟩
  rw [kept_apply m c _ rfl n, array_apply m c X Y hX hY L hL]
  show (((diag L (cost X Y (32 * (n.1 / 32) + n.1 % 32)) 1023).2 511 : ℝ) : EReal) = (((diag L (cost X Y n.1) 1023).2 511 : ℝ) : EReal)
  rw [show 32 * (n.1 / 32) + n.1 % 32 = n.1 by omega]

end Cert.Proof.KModel
-- ==== Proof.RefValue.lean ====
/-
  The reference's values. Its loop carries the two last anti-diagonals stacked, and the table of distances unchanged;
  `ref_states` says that on finite inputs the state before trip `p` holds `Soft.diag` of the table as real numbers.
-/
module

public import proofs.«01_k».proof.Proof.Gen.ReferenceIdeal.Step
public import proofs.«01_k».proof.Proof.SoftMath
public import Idealize.ShloMosaic.Lib.Pointwise

@[expose] public section

set_option maxRecDepth 16384

noncomputable section

open Idealize.ShloMosaic

namespace Cert.Proof.RefValue

open Cert.ReferenceIdeal Cert.ReferenceIdeal.Gen Cert.ReferenceIdeal.Step Cert.Proof.Soft

/-- The reference's states: `init` of its arguments, then `step` trip by trip. -/
def refIter (x y : (⟨S128x512x64, .f32⟩ : BufTy).Contents (Elt Ideal)) : ℕ → State Ideal
  | 0 => init x y
  | n + 1 => step n (refIter x y n)

/-- No trip changes the table of distances. -/
theorem refIter_table (x y : (⟨S128x512x64, .f32⟩ : BufTy).Contents (Elt Ideal)) :
    ∀ n, (refIter x y n).main_v16_2 = A_main_v12 x y
  | 0 => rfl
  | n + 1 => refIter_table x y n

/-- A bit chosen by a proposition chooses by the proposition. -/
theorem select_ite {α : Type} (c : Prop) [Decidable c] (a b : α) :
    Scalar.select (if c then 1#1 else 0#1) a b = if c then a else b := by
  by_cases h : c <;> simp [h, Scalar.select]

theorem toNat_diff (j i : ℕ) (hj : j < 1023) (hi : i < 512) (h : i ≤ j) :
    BitVec.ofNat 32 j - BitVec.ofNat 32 i = BitVec.ofNat 32 (j - i) := by
  apply BitVec.eq_of_toNat_eq
  simp only [BitVec.toNat_sub, BitVec.toNat_ofNat]
  omega

theorem toInt_small (n : ℕ) (hn : n < 2 ^ 31) : (BitVec.ofNat 32 n).toInt = n := by
  rw [BitVec.toInt_eq_toNat_cond, BitVec.toNat_ofNat]
  omega

theorem b1_apply (j : ℕ) (hj : j < 1023) (s : State Ideal) : b1 j s ix0 = BitVec.ofNat 32 j := by
  pointwise [b1, b0, K_main_v15]
  congr 1
  unfold Host.clampedStart
  show (min (max (BitVec.ofNat 32 j).toInt 0) ((1023 - 1 : ℕ) : ℤ)).toNat = j
  rw [toInt_small j (by omega)]
  omega

theorem b7_apply (j : ℕ) (hj : j < 1023) (s : State Ideal) (i : Fin 512) :
    b7 j s (ix1 i) = BitVec.ofNat 32 j - BitVec.ofNat 32 i.val := by
  pointwise [b7, b6, K_main_v13]
  rw [b1_apply j hj]
  rfl

/-- Which places of an anti-diagonal lie in the table, as the reference's words decide it. -/
theorem b14_apply (j : ℕ) (hj : j < 1023) (s : State Ideal) (i : Fin 512) :
    b14 j s (ix1 i) = if i.val ≤ j ∧ j < i.val + 512 then 1#1 else 0#1 := by
  pointwise [b14, b13, b10, b9, b12, b8, b11]
  rw [b7_apply j hj]
  have hi := i.isLt
  generalize i.val = i at hi ⊢
  have e : (BitVec.ofNat 32 j - BitVec.ofNat 32 i).toInt = (j : ℤ) - i := by
    rw [BitVec.toInt_sub, toInt_small j (by omega), toInt_small i (by omega), Int.bmod_eq_of_le (by omega) (by omega)]
  simp only [IntOp.cmpi, IntOp.andi, BitVec.sle, BitVec.slt, e]
  rw [show (0#32).toInt = 0 from rfl, show (512#32).toInt = 512 from rfl]
  by_cases h1 : i ≤ j <;> by_cases h2 : j < i + 512
  · rw [decide_eq_true (by omega), decide_eq_true (by omega), if_pos ⟨h1, h2⟩]; rfl
  · rw [decide_eq_true (by omega), decide_eq_false (by omega), if_neg (by omega)]; rfl
  · rw [decide_eq_false (by omega), decide_eq_true (by omega), if_neg (by omega)]; rfl
  · rw [decide_eq_false (by omega), decide_eq_false (by omega), if_neg (by omega)]; rfl

theorem b39_zero (j : ℕ) (s : State Ideal) (i : Fin 512) :
    b39 j s (ix2 i 0) = BitVec.ofNat 32 i.val := by
  pointwise [b39, b37, b29, b28, b27, b26, b25, b24, b23, K_main_v13]
  have h : ∀ i : Fin 512, IntOp.cmpi CmpIPredicate.slt (BitVec.ofNat 32 i.val) 0#32 = 0#1 := by decide
  rw [h]
  rfl

theorem b39_one (j : ℕ) (hj : j < 1023) (s : State Ideal) (i : Fin 512) (h₁ : i.val ≤ j) (h₂ : j < i.val + 512) :
    b39 j s (ix2 i 1) = BitVec.ofNat 32 (j - i.val) := by
  pointwise [b39, b38, b36, b35, b34, b33, b32, b31, b30, b22, b21, b20, b19, b18, b17, b15, b16]
  rw [b7_apply j hj, toNat_diff j i.val hj i.isLt h₁]
  have h : ∀ k : Fin 512, Scalar.select (IntOp.cmpi CmpIPredicate.slt (IntOp.minsi (511#32) (IntOp.maxsi (0#32) (BitVec.ofNat 32 k.val))) 0#32)
      (IntOp.addi (IntOp.minsi (511#32) (IntOp.maxsi (0#32) (BitVec.ofNat 32 k.val))) 512#32)
      (IntOp.minsi (511#32) (IntOp.maxsi (0#32) (BitVec.ofNat 32 k.val))) = BitVec.ofNat 32 k.val := by decide
  exact h ⟨j - i.val, by omega⟩

/-- The gathered distance at a place of the table. -/
theorem b40_apply (j : ℕ) (hj : j < 1023) (s : State Ideal) (b : Fin 128) (i : Fin 512) (h₁ : i.val ≤ j)
    (h₂ : j < i.val + 512) : b40 j s (ix2 b i) = s.main_v16_2 (ix3 b i ⟨j - i.val, by omega⟩) := by
  unfold b40 Host.gather
  congr 1
  set d := gather_S128x512x512_S512x2_S128x512_0_12_n_n_12_1_12811 with hd
  have hj' := i.isLt
  funext a
  refine Fin.ext ?_
  show d.start (ix2 b i) (b39 j s) a + d.batchCoord (ix2 b i) a + d.offCoord (ix2 b i) a = _
  rw [GatherDims.batchCoord_eq_zero _ _ _ List.not_mem_nil, Nat.add_zero]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  have hc : ∀ a : Fin 3, a = 1 ∨ a = 2 → d.offCoord (ix2 b i) a = 0 := fun a h => GatherDims.offCoord_eq_zero _ _ _
    (fun hm => ((GatherDims.mem_sKept _ _).mp hm).1 (by rcases h with rfl | rfl <;> simp [hd, gather_S128x512x512_S512x2_S128x512_0_12_n_n_12_1_12811]))
  rcases h3 with rfl | rfl | rfl
  · have h0 : d.start (ix2 b i) (b39 j s) (0 : Fin 3) = 0 := by
      unfold GatherDims.start
      exact dif_neg (by simp [hd, gather_S128x512x512_S512x2_S128x512_0_12_n_n_12_1_12811])
    rw [h0, Nat.zero_add]
    unfold GatherDims.offCoord
    exact dif_pos (by decide)
  · rw [hc 1 (Or.inl rfl), Nat.add_zero]
    unfold GatherDims.start
    rw [dif_pos (show (1 : Fin 3) ∈ d.startIndexMap from List.mem_cons_self)]
    have hsi : d.siIdx (ix2 b i) ⟨List.idxOf (1 : Fin 3) d.startIndexMap, List.idxOf_lt_length_iff.2 List.mem_cons_self⟩
        = ix2 i (0 : Fin 2) := by
      funext b; refine Fin.ext ?_
      match b with
      | ⟨0, _⟩ => rfl
      | ⟨1, _⟩ => rfl
    rw [hsi, b39_zero, toInt_small _ (by omega)]
    show min i.val (512 - 1) = i.val
    omega
  · rw [hc 2 (Or.inr rfl), Nat.add_zero]
    have hm : (2 : Fin 3) ∈ d.startIndexMap := List.mem_cons_of_mem _ List.mem_cons_self
    unfold GatherDims.start
    rw [dif_pos hm]
    have hsi : d.siIdx (ix2 b i) ⟨List.idxOf (2 : Fin 3) d.startIndexMap, List.idxOf_lt_length_iff.2 hm⟩
        = ix2 i (1 : Fin 2) := by
      funext b; refine Fin.ext ?_
      match b with
      | ⟨0, _⟩ => rfl
      | ⟨1, _⟩ => rfl
    rw [hsi, b39_one j hj s i h₁ h₂, toInt_small _ (by omega)]
    show min (j - i.val) (512 - 1) = j - i.val
    omega

/-- `b55`: the anti-diagonal two back, moved one place up, the origin's zero at the first step. -/
theorem b55_apply (j : ℕ) (hj : j < 1023) (s : State Ideal) (b : Fin 128) (i : Fin 512) (L : ℝ)
    (hL : Ideal.ofBits .f32 0x7149F2CA#32 = (L : EReal)) (f : ℕ → ℝ)
    (hf : ∀ i : Fin 512, s.main_v16_4 (ix3 0 b i) = ((f i.val : ℝ) : EReal)) :
    b55 j s (ix2 b i) = ((corner L j f i.val : ℝ) : EReal) := by
  pointwise [b55, b54, b53, b52, b51, b50, b49, b48, b47, b46, b45, b44, b43, b42, b41, b3, b2, K_main_v13]
  rw [b1_apply j hj]
  have h0 : ∀ n : ℕ, n < 1023 → IntOp.cmpi CmpIPredicate.eq (BitVec.ofNat 32 n) 0#32 = if n = 0 then 1#1 else 0#1 := by
    intro n hn
    have e : BitVec.ofNat 32 n = 0#32 ↔ n = 0 := by
      rw [← BitVec.toNat_inj]; simp only [BitVec.toNat_ofNat]; omega
    by_cases hc : n = 0
    · rw [if_pos hc]; subst hc; rfl
    · rw [if_neg hc]
      show BitVec.ofBool (BitVec.ofNat 32 n == 0#32) = 0#1
      rw [beq_false_of_ne (fun h => hc (e.1 h))]; rfl
  rw [h0 _ hj, h0 _ (by omega)]
  unfold corner up
  by_cases hi : i.val = 0 <;> by_cases hj0 : j = 0 <;>
    simp [hi, hj0, IntOp.andi, Scalar.select, hL, hf]

theorem b57_apply (j : ℕ) (s : State Ideal) (b : Fin 128) (i : Fin 512) (L : ℝ)
    (hL : Ideal.ofBits .f32 0x7149F2CA#32 = (L : EReal)) (f : ℕ → ℝ)
    (hf : ∀ i : Fin 512, s.main_v16_4 (ix3 1 b i) = ((f i.val : ℝ) : EReal)) :
    b57 j s (ix2 b i) = ((up L f i.val : ℝ) : EReal) := by
  pointwise [b57, b56, b42, b41, b5, b4]
  unfold up
  by_cases hi : i.val = 0
  · exact (dif_pos (show i.val < 1 by omega)).trans (by rw [if_pos hi, hL])
  · exact (dif_neg (show ¬ i.val < 1 by omega)).trans ((hf _).trans (by rw [if_neg hi]))

theorem neg_one_bits : Ideal.ofBits .f32 0xBF800000#32 = ((-1 : ℝ) : EReal) := by
  simp [Ideal.ofBits, Ideal.ieee]
  rw [← EReal.coe_mul, ← EReal.coe_one]
  norm_num

theorem two_bits : Ideal.ofBits .f32 0x40000000#32 = ((2 : ℝ) : EReal) := by
  simp [Ideal.ofBits, Ideal.ieee]
  rw [← EReal.coe_mul]
  norm_num

/-- One trip: the new anti-diagonal. -/
theorem b90_apply (j : ℕ) (hj : j < 1023) (s : State Ideal) (b : Fin 128) (i : Fin 512) (L : ℝ)
    (hL : Ideal.ofBits .f32 0x7149F2CA#32 = (L : EReal)) (f₂ f₁ : ℕ → ℝ) (D : ℕ → ℕ → ℝ)
    (hf₂ : ∀ i : Fin 512, s.main_v16_4 (ix3 0 b i) = ((f₂ i.val : ℝ) : EReal))
    (hf₁ : ∀ i : Fin 512, s.main_v16_4 (ix3 1 b i) = ((f₁ i.val : ℝ) : EReal))
    (hD : ∀ i k : Fin 512, s.main_v16_2 (ix3 b i k) = ((D i.val k.val : ℝ) : EReal)) :
    b90 j s (ix2 b i) = ((next L D j f₂ f₁ i.val : ℝ) : EReal) := by
  pointwise [b90, b89, b88, b87, b86, b85, b84, b83, b82, b81, b80, b79, b78, b77, b76, b75, b74, b73, b72, b71, b70, b69, b68, b67, b66, b65, b64, b63, b62, b61, b60, b59, b58]
  rw [b14_apply j hj, select_ite]
  unfold next
  by_cases h : i.val ≤ j ∧ j < i.val + 512
  · rw [if_pos h, if_pos h, b40_apply j hj s b i h.1 h.2, hD, neg_one_bits, b55_apply j hj s b i L hL f₂ hf₂,
      b57_apply j s b i L hL f₁ hf₁]
    have h5 : b5 j s (ix2 b i) = ((f₁ i.val : ℝ) : EReal) := by
      pointwise [b5, b4]
      exact hf₁ i
    rw [h5]
    exact ref_cell _ _ _ _
  · rw [if_neg h, if_neg h, hL]

/-- The states of the reference hold the anti-diagonals. -/
theorem ref_states (x y : (⟨S128x512x64, .f32⟩ : BufTy).Contents (Elt Ideal)) (b : Fin 128) (L : ℝ)
    (hL : Ideal.ofBits .f32 0x7149F2CA#32 = (L : EReal)) (D : ℕ → ℕ → ℝ)
    (hD : ∀ i k : Fin 512, A_main_v12 x y (ix3 b i k) = ((D i.val k.val : ℝ) : EReal)) :
    ∀ p, p ≤ 1023 → ∀ i : Fin 512,
      (refIter x y p).main_v16_4 (ix3 0 b i) = (((diag L D p).1 i.val : ℝ) : EReal)
      ∧ (refIter x y p).main_v16_4 (ix3 1 b i) = (((diag L D p).2 i.val : ℝ) : EReal)
  | 0, _, i => by
    constructor
    · show K_main_v14 (F := Ideal) (ix3 0 b i) = _
      pointwise [K_main_v14, K_main_cst_2]
      exact hL
    · show K_main_v14 (F := Ideal) (ix3 1 b i) = _
      pointwise [K_main_v14, K_main_cst_2]
      exact hL
  | p + 1, hp, i => by
    have ih := ref_states x y b L hL D hD p (by omega)
    have e : (refIter x y (p + 1)).main_v16_4 = b93 p (refIter x y p) := rfl
    rw [e]
    constructor
    · pointwise [b93, b92, b91, b5, b4]
      exact (ih i).2
    · pointwise [b93, b92, b91]
      exact b90_apply p (by omega) _ b i L hL _ _ D (fun i => (ih i).1) (fun i => (ih i).2)
        (fun i k => by rw [refIter_table]; exact hD i k)

/-- The table's entry: the squared distance of two rows, spelt out. -/
theorem table_apply (x y : (⟨S128x512x64, .f32⟩ : BufTy).Contents (Elt Ideal)) (b : Fin 128) (i k : Fin 512)
    (X Y : Fin 64 → ℝ) (hX : ∀ d, x (ix3 b i d) = ((X d : ℝ) : EReal)) (hY : ∀ d, y (ix3 b k d) = ((Y d : ℝ) : EReal)) :
    A_main_v12 x y (ix3 b i k)
      = ((∑ d, X d * X d + ∑ d, Y d * Y d - 2 * ∑ d, X d * Y d : ℝ) : EReal) := by
  pointwise [A_main_v12, A_main_v8, A_main_v6, A_main_v7, A_main_v11, A_main_v9, A_main_v2, A_main_v1, A_main_v0, A_main_v3, A_main_v4, A_main_v5, K_main_v10, K_main_cst, K_main_cst_0, K_main_cst_1]
  simp only [hX, hY, two_bits, ← EReal.coe_mul, coe_sum, ← EReal.coe_add, ← EReal.coe_sub]

/-- The result: the last anti-diagonal's last place. -/
theorem result_apply (x y : (⟨S128x512x64, .f32⟩ : BufTy).Contents (Elt Ideal)) (b : Fin 128) :
    R_main_v20 (refIter x y 1023) (ix1 b) = (refIter x y 1023).main_v16_4 (ix3 1 b 511) := by
  pointwise [R_main_v20]

end Cert.Proof.RefValue

end
-- ==== Proof.Finite.lean ====
/-
  The precondition decoded: every element of both arguments is a real number.
-/
module

public import proofs.«01_k».proof.Defs
public import Idealize.ShloMosaic.Lib.ReduceAll
public import Idealize.ShloMosaic.Lib.Pointwise

@[expose] public section

set_option maxRecDepth 16384

noncomputable section

open Idealize.ShloMosaic

namespace Cert.Proof.Finite

open Cert.Pre_finite_inputs

/-- The shapes' side conditions. -/
theorem facts : Cert.Pre_finite_inputs.Facts where
  bcast_S_S128x512x64 := by decide
  reducesTo_S128x512x64_S_d0_1_2 := by decide
  h_S_ := by decide

theorem top_bits : Ideal.ofBits .f32 0x7F800000#32 = (⊤ : EReal) := by simp [Ideal.ofBits, Ideal.ieee]

theorem one_bit (b : Bool) (h : BitVec.ofBool b = 1#1) : b = true := by revert h; cases b <;> decide

theorem coe_toReal_of_small (v : EReal) (h : max v (-v) < ⊤) : v = ((v.toReal : ℝ) : EReal) := by
  have h1 := max_lt_iff.1 h
  refine (EReal.coe_toReal h1.1.ne ?_).symm
  rintro rfl
  exact absurd h1.2 (by simp)

theorem and_one : ∀ a b : BitVec 1, IntOp.andi a b = 1#1 → a = 1#1 ∧ b = 1#1 := by decide

theorem real_of_mask [Facts] (x : FVec Ideal S128x512x64 .f32) (i : S128x512x64.Idx)
    (h : cmpf .olt (Host.absf x) (broadcastInDim S128x512x64 ![] Facts.bcast_S_S128x512x64 (constant S_ .f32 0x7F800000#32 : FVec Ideal S_ .f32)) i = 1#1) :
    x i = (((x i).toReal : ℝ) : EReal) := by
  apply coe_toReal_of_small
  have e : BitVec.ofBool (decide (max (x i) (-(x i)) < Ideal.ofBits .f32 0x7F800000#32)) = 1#1 := h
  rw [top_bits] at e
  exact of_decide_eq_true (one_bit _ e)

theorem decoded [Facts] (x y : FVec Ideal S128x512x64 .f32) (h : fn (F := Ideal) x y = fun _ => 1#1) (i : S128x512x64.Idx) :
    x i = (((x i).toReal : ℝ) : EReal) ∧ y i = (((y i).toReal : ℝ) : EReal) := by
  have : Subsingleton S_.Idx := ⟨fun a b => funext fun k => k.elim0⟩
  have h0 := and_one _ _ (congrFun h ix0)
  exact ⟨real_of_mask x i (Host.reduce_andi_all _ _ _ _ _ h0.1 i), real_of_mask y i (Host.reduce_andi_all _ _ _ _ _ h0.2 i)⟩

end Cert.Proof.Finite

end
-- ==== Proof.Algebraic.lean ====
/-
  Kernel and reference end with the same result on finite inputs: both hold the last anti-diagonal's last place, as a real
  number.
-/
module

public import proofs.«01_k».proof.Proof.KValue
public import proofs.«01_k».proof.Proof.RefValue
public import proofs.«01_k».proof.Proof.Finite
public import proofs.«01_k».proof.Proof.Gen.ReferenceIdeal.StepRun

@[expose] public section

set_option maxRecDepth 16384

noncomputable section

open Idealize.ShloMosaic Idealize.ShloMosaic.TcCoe Idealize.SL.Sem

namespace Cert.Proof

open Cert.Proof.Soft

/-- The large constant outside the table is a real number. -/
theorem large_real : ∃ L : ℝ, Ideal.ofBits .f32 0x7149F2CA#32 = ((L : ℝ) : EReal) := by
  refine ⟨13234890 * 2 ^ 76, ?_⟩
  simp [Ideal.ofBits, Ideal.ieee]

/-- An argument's entries as real numbers, the row numbers unbounded. -/
def entries (x : FVec Ideal Cert.Pre_finite_inputs.S128x512x64 .f32) (b i : ℕ) (d : Fin 64) : ℝ :=
  (x (ix3 ⟨b % 128, Nat.mod_lt _ (by decide)⟩ ⟨i % 512, Nat.mod_lt _ (by decide)⟩ d)).toReal

theorem entries_apply (x : FVec Ideal Cert.Pre_finite_inputs.S128x512x64 .f32) (h : ∀ i, x i = (((x i).toReal : ℝ) : EReal))
    (b : Fin 128) (i : Fin 512) (d : Fin 64) : x (ix3 b i d) = ((entries x b.1 i.1 d : ℝ) : EReal) := by
  have e : (ix3 ⟨b.1 % 128, Nat.mod_lt _ (by decide)⟩ ⟨i.1 % 512, Nat.mod_lt _ (by decide)⟩ d : Cert.Pre_finite_inputs.S128x512x64.Idx) = ix3 b i d :=
    congrArg₂ (fun b i => ix3 b i d) (Fin.ext (Nat.mod_eq_of_lt b.2)) (Fin.ext (Nat.mod_eq_of_lt i.2))
  unfold entries
  rw [e]
  exact h _

/-- The reference's result on real inputs. -/
theorem reference_value (x y : FVec Ideal Cert.Pre_finite_inputs.S128x512x64 .f32) (X Y : ℕ → ℕ → Fin 64 → ℝ)
    (hX : ∀ (b : Fin 128) (i : Fin 512) (d : Fin 64), x (ix3 b i d) = ((X b.1 i.1 d : ℝ) : EReal))
    (hY : ∀ (b : Fin 128) (j : Fin 512) (d : Fin 64), y (ix3 b j d) = ((Y b.1 j.1 d : ℝ) : EReal))
    (L : ℝ) (hL : Ideal.ofBits .f32 0x7149F2CA#32 = ((L : ℝ) : EReal)) :
    Cert.ReferenceIdeal.Step.R_main_v20 (RefValue.refIter x y 1023)
      = fun i => (((diag L (KModel.cost X Y (i 0).1) 1023).2 511 : ℝ) : EReal) := by
  funext i
  obtain ⟨n, rfl⟩ : ∃ n : Fin 128, i = ix1 n := ⟨i 0, eq_ix1 i⟩
  rw [RefValue.result_apply]
  exact (RefValue.ref_states x y n L hL (KModel.cost X Y n.1)
    (fun i k => RefValue.table_apply x y n i k _ _ (fun d => hX n i d) (fun d => hY n k d)) 1023 le_rfl 511).2

theorem algebraic [Cert.Pre_finite_inputs.Facts]
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal_finite_inputs m)
    (hargs : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  obtain ⟨L, hL⟩ := large_real
  let x := fun c : Dev Cert.KernelIdeal.nD => (m ((c.tc : Thread Cert.KernelIdeal.nD Cert.KernelIdeal.τ).loc Cert.KernelIdeal.main_arg0) : FVec Ideal Cert.Pre_finite_inputs.S128x512x64 .f32)
  let y := fun c : Dev Cert.KernelIdeal.nD => (m ((c.tc : Thread Cert.KernelIdeal.nD Cert.KernelIdeal.τ).loc Cert.KernelIdeal.main_arg1) : FVec Ideal Cert.Pre_finite_inputs.S128x512x64 .f32)
  have hx := fun c => entries_apply (x c) fun i => (Finite.decoded (x c) (y c) (hpre c) i).1
  have hy := fun c => entries_apply (y c) fun i => (Finite.decoded (x c) (y c) (hpre c) i).2
  refine ⟨fun c => (fun i => (((diag L (KModel.cost (entries (x c)) (entries (y c)) (i 0).1) 1023).2 511 : ℝ) : EReal) : FVec Ideal Cert.KernelIdeal.S128 .f32), ?_, ?_⟩
  · refine (θ_run Cert.KernelIdeal.defs _ _).mono (fun r h c => ⟨?_, ?_, ?_⟩)
      (θ_run_and (Cert.KernelIdeal.Gen.run_main m g) (Cert.KernelIdeal.Gen.unchanged m g))
    · exact (h.1.rest_eq c Cert.KernelIdeal.main_v8 (by decide)).trans (KModel.kernel_value m c _ _ (hx c) (hy c) L hL)
    · exact (h.2 c).1
    · exact (h.2 c).2
  · refine (θ_run Cert.ReferenceIdeal.defs _ _).mono (fun r h c => ⟨(h c).1.trans ?_, (h c).2.1, (h c).2.2⟩)
      (Cert.ReferenceIdeal.StepRun.run_iter m' g' (fun c => RefValue.refIter (x c) (y c))
        (fun c => by
          show Cert.ReferenceIdeal.Step.init _ _ = Cert.ReferenceIdeal.Step.init _ _
          rw [(hargs c).1, (hargs c).2])
        (fun _ _ => rfl))
    exact reference_value (x c) (y c) _ _ (hx c) (hy c) L hL

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Algebraic
public import Idealize.ShloMosaic.Lib.Quiescent

@[expose] public section

noncomputable section

namespace Cert.Proof

open Idealize.ShloMosaic Idealize.SL.Sem

/-- The reference runs, ends with its arguments unchanged, and holds no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts, Finite.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  have := Finite.facts
  fun m g m' g' hpre hargs => algebraic m g m' g' hpre hargs⟩

end Cert.Proof

end
